-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_not_minus_infinity [hPre_bias_not_minus_infinity : Cert.Pre_bias_not_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_bias_not_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_not_minus_infinity [hPre_bias_not_minus_infinity : Cert.Pre_bias_not_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_not_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bias_not_minus_infinity [hKernelIdeal : Cert.KernelIdeal.Facts] [hPre_bias_not_minus_infinity : Cert.Pre_bias_not_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_not_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bias_not_minus_infinity [hReferenceIdeal : Cert.ReferenceIdeal.Facts] [hPre_bias_not_minus_infinity : Cert.Pre_bias_not_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_not_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bias_not_minus_infinity [hKernelIdeal : Cert.KernelIdeal.Facts] [hReferenceIdeal : Cert.ReferenceIdeal.Facts] [hPre_bias_not_minus_infinity : Cert.Pre_bias_not_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_not_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_indices_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bias_not_minus_infinity : Cert.Pre_bias_not_minus_infinity.Facts),
    quiescent_Kernel (hKernel := hKernel)
    ∧ quiescent_KernelIdeal (hKernelIdeal := hKernelIdeal)
    ∧ quiescent_KernelIdeal_pre_bias_not_minus_infinity (hKernelIdeal := hKernelIdeal) (hPre_bias_not_minus_infinity := hPre_bias_not_minus_infinity)
    ∧ quiescent_ReferenceIdeal (hReferenceIdeal := hReferenceIdeal)
    ∧ quiescent_ReferenceIdeal_pre_bias_not_minus_infinity (hReferenceIdeal := hReferenceIdeal) (hPre_bias_not_minus_infinity := hPre_bias_not_minus_infinity)
    ∧ preserves_Kernel_KernelIdeal
    ∧ algebraic_KernelIdeal_ReferenceIdeal_pre_bias_not_minus_infinity (hKernelIdeal := hKernelIdeal) (hReferenceIdeal := hReferenceIdeal) (hPre_bias_not_minus_infinity := hPre_bias_not_minus_infinity)
-- ==== Pre_bias_not_minus_infinity.lean ====
abbrev S16384x4096 : Shape := ⟨2, ![16384, 4096]⟩
abbrev S4096x64 : Shape := ⟨2, ![4096, 64]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S16384x4096 .f32) (main_arg1 : FVec F S4096x64 .f32) (main_arg2 : FVec F S64 .f32) : IVec S64 1 :=
  let main_cst : FVec F S_ .f32 := constant S_ .f32 0xFF800000#32
  let main_v0 : FVec F S64 .f32 := broadcastInDim S64 ![] bcast_S_S64 main_cst
  let main_v1 : IVec S64 1 := cmpf .ogt main_arg2 main_v0
  main_v1
-- ==== Kernel.lean ====
abbrev S16384x4096 : Shape := ⟨2, ![16384, 4096]⟩
abbrev S4096x64 : Shape := ⟨2, ![4096, 64]⟩
abbrev S64 : Shape := ⟨1, ![64]⟩
abbrev S1x64 : Shape := ⟨2, ![1, 64]⟩
abbrev S16384x8 : Shape := ⟨2, ![16384, 8]⟩
abbrev S512x4096 : Shape := ⟨2, ![512, 4096]⟩
abbrev S512x8 : Shape := ⟨2, ![512, 8]⟩
abbrev S512x64 : Shape := ⟨2, ![512, 64]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x64, .f32⟩
  | .hbm, ⟨2, _⟩ => ⟨S64, .f32⟩
  | .hbm, ⟨3, _⟩ => ⟨S1x64, .f32⟩
  | .hbm, ⟨4, _⟩ => ⟨S16384x8, .f32⟩
  | .hbm, ⟨5, _⟩ => ⟨S16384x8, .i32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S1x64, .f32⟩
  | .local _ .vmem, ⟨4, _⟩ => ⟨S512x8, .f32⟩
  | .local _ .vmem, ⟨5, _⟩ => ⟨S512x8, .f32⟩
  | .local _ .vmem, ⟨6, _⟩ => ⟨S512x8, .i32⟩
  | .local _ .vmem, ⟨7, _⟩ => ⟨S512x8, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x4096 : Shape := ⟨2, ![16384, 4096]⟩
abbrev S4096x64 : Shape := ⟨2, ![4096, 64]⟩
abbrev S64 : Shape := ⟨1, ![64]⟩
abbrev S16384x64 : Shape := ⟨2, ![16384, 64]⟩
abbrev S_ : Shape := ⟨0, ![]⟩
abbrev S1x64 : Shape := ⟨2, ![1, 64]⟩
abbrev S16384x8x8 : Shape := ⟨3, ![16384, 8, 8]⟩
abbrev S16384x8x2 : Shape := ⟨3, ![16384, 8, 2]⟩
abbrev S16384x8 : Shape := ⟨2, ![16384, 8]⟩
abbrev S16384x4 : Shape := ⟨2, ![16384, 4]⟩
abbrev S8 : Shape := ⟨1, ![8]⟩
abbrev S8x1 : Shape := ⟨2, ![8, 1]⟩
abbrev S16384x1x4 : Shape := ⟨3, ![16384, 1, 4]⟩
abbrev S1x8x1 : Shape := ⟨3, ![1, 8, 1]⟩
abbrev S16384x8x4 : Shape := ⟨3, ![16384, 8, 4]⟩
abbrev S16384x8x1 : Shape := ⟨3, ![16384, 8, 1]⟩
abbrev S1 : Shape := ⟨1, ![1]⟩
abbrev S1x1x1 : Shape := ⟨3, ![1, 1, 1]⟩
abbrev S16384 : Shape := ⟨1, ![16384]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x64, .f32⟩
  | .hbm, ⟨2, _⟩ => ⟨S64, .f32⟩
  | .hbm, ⟨3, _⟩ => ⟨S16384x64, .f32⟩
  | .hbm, ⟨4, _⟩ => ⟨S16384x64, .f32⟩
  | .hbm, ⟨5, _⟩ => ⟨S16384x64, .f32⟩
  | .hbm, ⟨6, _⟩ => ⟨S_, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384x64, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S16384x8x8, .f32⟩
  | .hbm, ⟨16, _⟩ => ⟨S16384x8x2, .f32⟩
  | .hbm, ⟨17, _⟩ => ⟨S16384x8x2, .i32⟩
  | .hbm, ⟨18, _⟩ => ⟨S_, .f32⟩
  | .hbm, ⟨19, _⟩ => ⟨S16384x8, .f32⟩
  | .hbm, ⟨20, _⟩ => ⟨S16384x4, .f32⟩
  | .hbm, ⟨21, _⟩ => ⟨S16384x4, .i32⟩
  | .hbm, ⟨22, _⟩ => ⟨S8, .i32⟩
  | .hbm, ⟨23, _⟩ => ⟨S8x1, .i32⟩
  | .hbm, ⟨24, _⟩ => ⟨S16384x1x4, .i32⟩
  | .hbm, ⟨25, _⟩ => ⟨S1x8x1, .i32⟩
  | .hbm, ⟨26, _⟩ => ⟨S16384x8x4, .i32⟩
  | .hbm, ⟨27, _⟩ => ⟨S16384x8x4, .i32⟩
  | .hbm, ⟨28, _⟩ => ⟨S16384x8x4, .i1⟩
  | .hbm, ⟨29, _⟩ => ⟨S_, .i1⟩
  | .hbm, ⟨30, _⟩ => ⟨S16384x8, .i1⟩
  | .hbm, ⟨31, _⟩ => ⟨S16384x8x8, .i1⟩
  | .hbm, ⟨32, _⟩ => ⟨S16384x64, .i1⟩
  | .hbm, ⟨33, _⟩ => ⟨S_, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S16384x8, .f32⟩
  | .hbm, ⟨38, _⟩ => ⟨S16384x8, .i32⟩
  | .hbm, ⟨39, _⟩ => ⟨S_, .i32⟩
  | .hbm, ⟨40, _⟩ => ⟨S16384x8, .i32⟩
  | .hbm, ⟨41, _⟩ => ⟨S16384x8, .i1⟩
  | .hbm, ⟨42, _⟩ => ⟨S_, .i32⟩
  | .hbm, ⟨43, _⟩ => ⟨S16384x8, .i32⟩
  | .hbm, ⟨44, _⟩ => ⟨S16384x8, .i32⟩
  | .hbm, ⟨45, _⟩ => ⟨S16384x8, .i32⟩
  | .hbm, ⟨46, _⟩ => ⟨S16384x8x1, .i32⟩
  | .hbm, ⟨47, _⟩ => ⟨S1, .i32⟩
  | .hbm, ⟨48, _⟩ => ⟨S_, .i32⟩
  | .hbm, ⟨49, _⟩ => ⟨S16384x8x1, .i32⟩
  | .hbm, ⟨50, _⟩ => ⟨S16384x8x1, .i1⟩
  | .hbm, ⟨51, _⟩ => ⟨S1x1x1, .i32⟩
  | .hbm, ⟨52, _⟩ => ⟨S16384x8x1, .i32⟩
  | .hbm, ⟨53, _⟩ => ⟨S16384x8x1, .i1⟩
  | .hbm, ⟨54, _⟩ => ⟨S16384x8x1, .i1⟩
  | .hbm, ⟨55, _⟩ => ⟨S_, .i1⟩
  | .hbm, ⟨56, _⟩ => ⟨S16384x8, .i1⟩
  | .hbm, ⟨57, _⟩ => ⟨S16384x8, .f32⟩
  | .hbm, ⟨58, _⟩ => ⟨S_, .f32⟩
  | .hbm, ⟨59, _⟩ => ⟨S16384x8, .f32⟩
  | .hbm, ⟨60, _⟩ => ⟨S16384x8, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x8, .f32⟩
  | .hbm, ⟨68, _⟩ => ⟨S16384x8, .f32⟩
  | .hbm, ⟨69, _⟩ => ⟨S_, .f32⟩
  | .hbm, ⟨70, _⟩ => ⟨S16384x8, .f32⟩
  | .hbm, ⟨71, _⟩ => ⟨S16384x8, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_values : Ref sig .tc := ⟨.hbm, 16, rfl⟩
abbrev main_indices : Ref sig .tc := ⟨.hbm, 17, rfl⟩
abbrev main_cst_1 : Ref sig .tc := ⟨.hbm, 18, rfl⟩
abbrev main_v11 : Ref sig .tc := ⟨.hbm, 19, rfl⟩
abbrev main_values_2 : Ref sig .tc := ⟨.hbm, 20, rfl⟩
abbrev main_indices_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_values_5 : Ref sig .tc := ⟨.hbm, 37, rfl⟩
abbrev main_indices_6 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v23 : Ref sig .tc := ⟨.hbm, 60, rfl⟩
abbrev main_cst_7 : Ref sig .tc := ⟨.hbm, 61, rfl⟩
abbrev main_v24 : Ref sig .tc := ⟨.hbm, 62, rfl⟩
abbrev main_v25 : Ref sig .tc := ⟨.hbm, 63, rfl⟩
abbrev main_cst_8 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_9 : Ref sig .tc := ⟨.hbm, 69, rfl⟩
abbrev main_v30 : Ref sig .tc := ⟨.hbm, 70, rfl⟩
abbrev main_v31 : Ref sig .tc := ⟨.hbm, 71, rfl⟩

abbrev nD : Nat := 1
abbrev τ : Topo := Topo.v7x

variable {F : FTy → Type} [FloatOps F]
-- ==== Proof.Pick.lean ====
/- Repeated selection of the largest entry of a finite row of extended reals.

   A round picks the first place where the row's maximum is and marks that place with minus infinity. As long as the
   row has no minus infinity of its own, the places picked by the first `k` rounds are the first `k` of a stable sort
   from the largest entry down. -/
module

public import Idealize.ShloMosaic.PureOps.Ideal
public import Idealize.ShloMosaic.PureOps.Ideal.Laws
public import Idealize.ShloMosaic.Lib.SortPrefix

@[expose] public section

noncomputable section

namespace Cert.Proof

open Idealize.ShloMosaic

section Rounds

variable {n : Nat} [NeZero n]

/-- The largest entry of a row (minus infinity if there is none). -/
def top (v : Fin n → EReal) : EReal := Finset.univ.sup v

theorem le_top (v : Fin n → EReal) (e : Fin n) : v e ≤ top v := Finset.le_sup (Finset.mem_univ e)

/-- The largest entry is somewhere, and there is a first such place. -/
theorem exists_first (v : Fin n → EReal) : ∃ p, v p = top v ∧ ∀ e, v e = top v → p ≤ e := by
  obtain ⟨q, _, hq⟩ := Finset.exists_mem_eq_sup Finset.univ ⟨(0 : Fin n), Finset.mem_univ _⟩ v
  obtain ⟨p, hp, hmin⟩ := Finset.exists_min_image (Finset.univ.filter fun e => v e = top v) id ⟨q, by simp [top, hq]⟩
  exact ⟨p, by simpa using hp, fun e he => hmin e (by simpa using he)⟩

/-- The first place of the largest entry. -/
def pick (v : Fin n → EReal) : Fin n := (exists_first v).choose

theorem at_pick (v : Fin n → EReal) : v (pick v) = top v := (exists_first v).choose_spec.1

theorem pick_le (v : Fin n → EReal) {e : Fin n} (h : v e = top v) : pick v ≤ e := (exists_first v).choose_spec.2 e h

/-- A place that holds the largest entry and is before every other such place is the one picked. -/
theorem pick_eq {v : Fin n → EReal} {p : Fin n} (h : v p = top v) (hmin : ∀ e, v e = top v → p ≤ e) : pick v = p :=
  le_antisymm (pick_le v h) (hmin _ (at_pick v))

/-- The row with its picked place marked by minus infinity. -/
def drop (v : Fin n → EReal) : Fin n → EReal := Function.update v (pick v) ⊥

/-- The row after `i` rounds. -/
def left (i : Nat) (v : Fin n → EReal) : Fin n → EReal := drop^[i] v

theorem left_zero (v : Fin n → EReal) : left 0 v = v := rfl

theorem left_succ (i : Nat) (v : Fin n → EReal) : left (i + 1) v = drop (left i v) :=
  Function.iterate_succ_apply' drop i v

/-- The place picked by round `i` (counted from zero). -/
def sel (v : Fin n → EReal) (i : Nat) : Fin n := pick (left i v)

/-- After `i` rounds a place holds minus infinity if one of them picked it, and its own entry otherwise. -/
theorem left_apply (v : Fin n → EReal) (i : Nat) (e : Fin n) :
    left i v e = if ∃ j < i, sel v j = e then ⊥ else v e := by
  induction i with
  | zero => simp [left_zero]
  | succ i ih =>
    rw [left_succ, drop, Function.update_apply]
    by_cases he : e = pick (left i v)
    · rw [if_pos he, if_pos ⟨i, Nat.lt_succ_self i, he.symm⟩]
    · rw [if_neg he, ih]
      refine if_congr ⟨fun ⟨j, hj, h⟩ => ⟨j, Nat.lt_succ_of_lt hj, h⟩, fun ⟨j, hj, h⟩ => ⟨j, ?_, h⟩⟩ rfl rfl
      rcases Nat.lt_succ_iff_lt_or_eq.mp hj with h' | h'
      · exact h'
      · subst h'; exact absurd h.symm he

/-- A round that starts with fewer than `n` places marked picks a place not picked before. -/
theorem sel_fresh (v : Fin n → EReal) (hv : ∀ e, v e ≠ ⊥) {i : Nat} (hi : i < n) : ∀ j < i, sel v j ≠ sel v i := by
  have hex : ∃ e, ∀ j < i, sel v j ≠ e := by
    by_contra hno
    push Not at hno
    have hsub : (Finset.univ : Finset (Fin n)) ⊆ (Finset.range i).image (sel v) := fun e _ => by
      obtain ⟨j, hj, h⟩ := hno e
      exact Finset.mem_image.mpr ⟨j, Finset.mem_range.mpr hj, h⟩
    have := (Finset.card_le_card hsub).trans Finset.card_image_le
    simp at this
    omega
  obtain ⟨e, he⟩ := hex
  intro j hj hji
  have h1 : left i v e = v e := by
    rw [left_apply, if_neg]; rintro ⟨j, hj, h⟩; exact he j hj h
  have h2 : left i v (sel v i) = ⊥ := by rw [left_apply, if_pos ⟨j, hj, hji⟩]
  have h3 : v e ≤ ⊥ := by rw [← h2, ← h1]; exact (le_top _ e).trans (at_pick (left i v)).ge
  exact hv e (le_bot_iff.mp h3)

/-- What round `i` picks is not smaller than any place not picked before, and before every such place equal to it. -/
theorem sel_best (v : Fin n → EReal) (hv : ∀ e, v e ≠ ⊥) {i : Nat} (hi : i < n) (p : Fin n) (hp : ∀ j < i, sel v j ≠ p) :
    v p ≤ v (sel v i) ∧ (v p = v (sel v i) → sel v i ≤ p) := by
  have h1 : left i v p = v p := by rw [left_apply, if_neg]; rintro ⟨j, hj, h⟩; exact hp j hj h
  have h2 : left i v (sel v i) = v (sel v i) := by
    rw [left_apply, if_neg]; rintro ⟨j, hj, h⟩; exact sel_fresh v hv hi j hj h
  have h3 : v (sel v i) = top (left i v) := h2.symm.trans (at_pick (left i v))
  refine ⟨by rw [h3, ← h1]; exact le_top _ p, fun h => pick_le (left i v) ?_⟩
  rw [h1, h, h3]

theorem sel_injective (v : Fin n → EReal) (hv : ∀ e, v e ≠ ⊥) {k : Nat} (hk : k ≤ n) :
    Function.Injective fun i : Fin k => sel v i := by
  intro i j h
  rcases lt_trichotomy i j with hij | hij | hij
  · exact absurd h (sel_fresh v hv (j.isLt.trans_le hk) i hij)
  · exact hij
  · exact absurd h.symm (sel_fresh v hv (i.isLt.trans_le hk) j hij)

end Rounds

section Sorting

variable {n : Nat}

/-- "Larger" and, of equals, "earlier". -/
def larger (v : Fin n → EReal) (k k' : Fin n) : Bool :=
  decide (v k' < v k) || (decide (v k = v k') && decide (k < k'))

theorem larger_strict (v : Fin n → EReal) : StrictTotalBefore (larger v) :=
  StrictTotalBefore.of_key_then_position (fun a b : EReal => decide (b < a)) v (by simp)
    (fun a b c h h' => by simp only [decide_eq_true_eq] at *; exact h'.trans h)
    (fun a b => by simp only [decide_eq_true_eq]; rcases lt_trichotomy a b with h | h | h <;> simp [h])

/-- The stable sort of an increasing list of places by "larger" alone is its sort by "larger, then earlier": a place is
    only ever compared with places after it. -/
theorem stableSort_larger (v : Fin n → EReal) (l : List (Fin n)) (hl : l.Pairwise (· < ·)) :
    stableSort (fun k k' => decide (v k' < v k)) l = stableSort (larger v) l := by
  induction l with
  | nil => rfl
  | cons a l ih =>
    rw [List.pairwise_cons] at hl
    unfold stableSort
    rw [ih hl.2]
    refine insertBefore_congr _ _ a _ fun b hb => ?_
    have hab : a < b := hl.1 b ((perm_stableSort (larger v) l).mem_iff.mp hb)
    simp [larger, not_lt_of_gt hab]

theorem sortedFrom_larger (v : Fin n → EReal) (k : Fin n) :
    sortedFrom (fun k k' => decide (v k' < v k)) k = sortedFrom (larger v) k := by
  have h : sortPositions n (fun k k' => decide (v k' < v k)) = sortPositions n (larger v) :=
    stableSort_larger v _ (List.pairwise_lt_finRange n)
  unfold sortedFrom
  simp only [List.get_eq_getElem, h]
  rfl

/-- The `i`-th place of the stable sort from the largest entry down is the one round `i` picks. -/
theorem sortedFrom_eq_sel [NeZero n] (v : Fin n → EReal) (hv : ∀ e, v e ≠ ⊥) {k : Nat} (hk : k ≤ n) (i : Fin k) :
    sortedFrom (fun k k' => decide (v k' < v k)) (i.castLE hk) = sel v i := by
  rw [sortedFrom_larger]
  refine (larger_strict v).sortedFrom_eq_of_prefix hk (fun i : Fin k => sel v i) (sel_injective v hv hk) ?_ ?_ i
  · intro i j hij
    have := sel_best v hv (i.isLt.trans_le hk) (sel v j) fun m hm h =>
      sel_fresh v hv (j.isLt.trans_le hk) m (hm.trans hij) h
    simp only [larger, Bool.or_eq_false_iff, Bool.and_eq_false_iff, decide_eq_false_iff_not, not_lt]
    refine ⟨this.1, ?_⟩
    by_cases h : v (sel v j) = v (sel v i)
    · exact .inr (this.2 h)
    · exact .inl h
  · intro i p hp
    have := sel_best v hv (i.isLt.trans_le hk) p fun m hm h => hp ⟨m, hm.trans i.isLt⟩ h
    simp only [larger, Bool.or_eq_false_iff, Bool.and_eq_false_iff, decide_eq_false_iff_not, not_lt]
    refine ⟨this.1, ?_⟩
    by_cases h : v p = v (sel v i)
    · exact .inr (this.2 h)
    · exact .inl h

end Sorting

/-! ### The folds a printed round is made of -/

section Folds

variable {n : Nat} [NeZero n]

/-- The fold of the maximum from minus infinity is the largest entry. -/
theorem fold_max_eq_top (v : Fin n → EReal) : Finset.univ.fold max ⊥ v = top v := rfl

/-- The signed minimum of words below `2 ^ 31` is the minimum of the numbers they are. -/
theorem minsi_ofNat {a b : Nat} (ha : a < 2 ^ 31) (hb : b < 2 ^ 31) :
    IntOp.minsi (BitVec.ofNat 32 a) (BitVec.ofNat 32 b) = BitVec.ofNat 32 (min a b) := by
  have hs : (BitVec.ofNat 32 a).slt (BitVec.ofNat 32 b) = decide (a < b) := by
    rw [BitVec.slt, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  unfold IntOp.minsi
  rw [hs]
  by_cases h : a < b
  · simp [h, Nat.min_eq_left h.le]
  · simp [h, Nat.min_eq_right (Nat.le_of_not_lt h)]

theorem fold_minsi_ofNat {ι : Type} [DecidableEq ι] (s : Finset ι) (f : ι → Nat) (c : Nat) (hc : c < 2 ^ 31) (hf : ∀ e, f e < 2 ^ 31) :
    s.fold IntOp.minsi (BitVec.ofNat 32 c) (fun e => BitVec.ofNat 32 (f e)) = BitVec.ofNat 32 (s.fold min c f)
      ∧ s.fold min c f < 2 ^ 31 := by
  induction s using Finset.induction_on with
  | empty => exact ⟨rfl, hc⟩
  | insert a s ha ih =>
    rw [Finset.fold_insert ha, Finset.fold_insert ha, ih.1, minsi_ofNat (hf a) ih.2]
    exact ⟨rfl, (min_le_left _ _).trans_lt (hf a)⟩

/-- The least place holding the largest entry, computed as the printed rounds do: the place where the entry is largest,
    `n` elsewhere, and the signed minimum of these words. -/
theorem fold_minsi_eq_pick (v : Fin n → EReal) (hn : n < 2 ^ 31) :
    Finset.univ.fold IntOp.minsi 2147483647#32
        (fun e : Fin n => if v e = top v then BitVec.ofNat 32 e else BitVec.ofNat 32 n)
      = BitVec.ofNat 32 (pick v) := by
  have hf : (fun e : Fin n => if v e = top v then BitVec.ofNat 32 e else BitVec.ofNat 32 n)
      = fun e : Fin n => BitVec.ofNat 32 (if v e = top v then (e : Nat) else n) := by
    funext e; split <;> rfl
  have h := (fold_minsi_ofNat Finset.univ (fun e : Fin n => if v e = top v then (e : Nat) else n) 2147483647 (by norm_num)
    (fun e => by have := e.isLt; split <;> omega)).1
  rw [hf, show (2147483647#32 : BitVec 32) = BitVec.ofNat 32 2147483647 from rfl, h]
  congr 1
  have hp := (pick v).isLt
  refine le_antisymm ?_ ?_
  · refine (Finset.fold_min_le _).mpr (.inr ⟨pick v, Finset.mem_univ _, ?_⟩)
    simp [at_pick]
  · refine (Finset.le_fold_min _).mpr ⟨by omega, fun e _ => ?_⟩
    split
    · next h => exact pick_le v h
    · exact hp.le

end Folds

/-! ### Eight groups of eight -/

section Groups

/-- Place `j` of group `g`. -/
def cell (g j : Fin 8) : Fin 64 := ⟨g * 8 + j, by omega⟩

/-- The group of a place. -/
def groupOf (e : Fin 64) : Fin 8 := ⟨e / 8, by omega⟩

/-- A group's entries. -/
def grp (g : Fin 8) (v : Fin 64 → EReal) : Fin 8 → EReal := fun j => v (cell g j)

/-- The whole row with every other group marked by minus infinity. -/
def only (g : Fin 8) (v : Fin 64 → EReal) : Fin 64 → EReal := fun e => if groupOf e = g then v e else ⊥

theorem groupOf_cell (g j : Fin 8) : groupOf (cell g j) = g := by
  apply Fin.ext; show (g.val * 8 + j.val) / 8 = g.val; omega

theorem exists_cell {g : Fin 8} {e : Fin 64} (h : groupOf e = g) : ∃ j, cell g j = e := by
  refine ⟨⟨e % 8, Nat.mod_lt _ (by norm_num)⟩, Fin.ext ?_⟩
  subst h
  show e.val / 8 * 8 + e.val % 8 = e.val
  omega

theorem only_cell (g j : Fin 8) (v : Fin 64 → EReal) : only g v (cell g j) = grp g v j := if_pos (groupOf_cell g j)

theorem top_only (g : Fin 8) (v : Fin 64 → EReal) : top (only g v) = top (grp g v) := by
  refine le_antisymm (Finset.sup_le fun e _ => ?_) (Finset.sup_le fun j _ => ?_)
  · unfold only
    split
    · next h => obtain ⟨j, rfl⟩ := exists_cell h; exact le_top (grp g v) j
    · exact bot_le
  · rw [← only_cell]; exact le_top (only g v) _

theorem pick_only (g : Fin 8) (v : Fin 64 → EReal) (hv : ∀ e, v e ≠ ⊥) : pick (only g v) = cell g (pick (grp g v)) := by
  refine pick_eq (by rw [only_cell, at_pick (grp g v), top_only]) fun e he => ?_
  have hg : groupOf e = g := by
    by_contra hne
    rw [only, if_neg hne, top_only, ← at_pick (grp g v)] at he
    exact hv _ he.symm
  obtain ⟨j, rfl⟩ := exists_cell hg
  rw [only_cell, top_only] at he
  have := Fin.le_def.mp (pick_le (grp g v) he)
  exact Fin.le_def.mpr (by show g.val * 8 + _ ≤ g.val * 8 + _; omega)

theorem cell_injective (g : Fin 8) : Function.Injective (cell g) := fun i j h => by
  have := congrArg Fin.val h
  apply Fin.ext
  simp only [cell] at this
  omega

theorem top_drop_only (g : Fin 8) (v : Fin 64 → EReal) (hv : ∀ e, v e ≠ ⊥) :
    top (drop (only g v)) = top (drop (grp g v)) := by
  have h1 : drop (only g v) = only g (Function.update v (cell g (pick (grp g v))) ⊥) := by
    funext e
    rw [drop, pick_only g v hv]
    by_cases he : e = cell g (pick (grp g v))
    · subst he; simp [only]
    · simp [only, Function.update_of_ne he]
  have h2 : grp g (Function.update v (cell g (pick (grp g v))) ⊥) = drop (grp g v) := by
    funext j
    by_cases hj : j = pick (grp g v)
    · subst hj; simp [grp, drop]
    · rw [drop, Function.update_of_ne hj]
      exact Function.update_of_ne (fun h => hj (cell_injective g h)) _ _
  rw [h1, top_only, h2]

end Groups

end Cert.Proof

end
-- ==== Proof.Spec.lean ====
/- What the router gives for one token, written for a row of scores: the 64 experts in eight groups of eight, the four
   groups with the best two-entry sums kept, eight experts picked from them, and their scores normalised. -/
module

public import proofs.«01_k».proof.Proof.Pick

@[expose] public section

noncomputable section

namespace Cert.Proof

open Idealize.ShloMosaic

/-- A token's scores: the logistic function of its product with each expert's column. -/
def scores (x : Fin 4096 → EReal) (w : Fin 4096 → Fin 64 → EReal) (e : Fin 64) : EReal :=
  Ideal.logistic (∑ k : Fin 4096, x k * w k e)

/-- The sum of a group's two largest entries. -/
def groupScore (v : Fin 64 → EReal) (g : Fin 8) : EReal := top (grp g v) + top (drop (grp g v))

/-- A group is kept if one of the first four rounds over the group scores picks it. -/
def Kept (v : Fin 64 → EReal) (g : Fin 8) : Prop := ∃ i < 4, sel (groupScore v) i = g

open Classical in
/-- The entries of the kept groups, and zero elsewhere. -/
def masked (v : Fin 64 → EReal) (e : Fin 64) : EReal := if Kept v (groupOf e) then v e else 0

/-- The expert picked by round `i`. -/
def expert (v : Fin 64 → EReal) (i : Nat) : Fin 64 := sel (masked v) i

/-- The weight of the expert picked by round `i`: its score over the sum of the eight picked scores, scaled. -/
def weight (s v : Fin 64 → EReal) (i : Nat) : EReal :=
  Ideal.div (s (expert v i)) ((∑ j : Fin 8, s (expert v j)) + Ideal.ofBits .f32 0x1E3CE508#32)
    * Ideal.ofBits .f32 0x40200000#32

/-- A score is never minus infinity. -/
theorem logistic_ne_bot (x : EReal) : Ideal.logistic x ≠ ⊥ := by
  induction x using EReal.rec with
  | bot => simp
  | coe r => simp
  | top => rw [Ideal.logistic_top]; exact EReal.coe_ne_bot 1

/-- So a score plus a bias that is not minus infinity is not minus infinity. -/
theorem scores_add_ne_bot (x : Fin 4096 → EReal) (w : Fin 4096 → Fin 64 → EReal) (b : Fin 64 → EReal) (hb : ∀ e, b e ≠ ⊥)
    (e : Fin 64) : scores x w e + b e ≠ ⊥ := fun h =>
  (EReal.add_eq_bot_iff.mp h).elim (logistic_ne_bot _) (hb e)

theorem groupScore_ne_bot (v : Fin 64 → EReal) (hv : ∀ e, v e ≠ ⊥) (g : Fin 8) : groupScore v g ≠ ⊥ := by
  have hg : ∀ j, grp g v j ≠ ⊥ := fun j => hv _
  have h0 : top (grp g v) ≠ ⊥ := fun h => hg _ ((at_pick _).trans h)
  have h1 : top (drop (grp g v)) ≠ ⊥ := fun h => by
    have h2 : pick (grp g v) ≠ sel (grp g v) 1 := sel_fresh (grp g v) hg (i := 1) (by norm_num) 0 (by norm_num)
    have h3 : drop (grp g v) (sel (grp g v) 1) = ⊥ := (at_pick (drop (grp g v))).trans h
    rw [drop, Function.update_of_ne h2.symm] at h3
    exact hg _ h3
  exact fun h => (EReal.add_eq_bot_iff.mp h).elim h0 h1

theorem masked_ne_bot (v : Fin 64 → EReal) (hv : ∀ e, v e ≠ ⊥) (e : Fin 64) : masked v e ≠ ⊥ := by
  unfold masked; split
  · exact hv e
  · exact EReal.zero_ne_bot

end Cert.Proof

end
-- ==== Proof.Round.lean ====
/- One selection round as the kernel writes it over a block of 512 rows, and what it leaves in each row.

   The block has `n` columns (64 experts, or eight groups): a round takes each row's maximum, marks where the row equals
   it, takes the least such column's number, and marks that column with minus infinity. -/
module

public import proofs.«01_k».proof.Proof.Spec
public import proofs.«01_k».proof.Proof.Gen.KernelIdeal.Frame
public import Idealize.ShloMosaic.Lib.Pointwise
public import Idealize.ShloMosaic.Lib.Pipeline.Value

@[expose] public section

set_option maxRecDepth 16384

noncomputable section

namespace Cert.Proof

open Idealize.ShloMosaic Cert.KernelIdeal

/-- A block of 512 rows of `n` columns. -/
abbrev Rows (n : Nat) : Shape := ⟨2, ![512, n]⟩

/-- Row `r` of a block. -/
def row {n : Nat} {α : Type} (v : (Rows n).Idx → α) (r : Fin 512) : Fin n → α := fun e => v (ix2 r e)

section Ops

variable {n : Nat} (hr : (Rows n).Reduces [1] S512) (hc : S512.ShapeCasts S512x1) (hb : S512x1.Broadcasts (Rows n))

/-- Each row's maximum. -/
def rowMax (v : FVec Ideal (Rows n) .f32) : FVec Ideal S512x1 .f32 :=
  shapeCast S512x1 (multiReduction .maximumf [1] S512 v 0xFF800000#32 hr (.inl rfl) rfl) hc

/-- The least column of each row that holds the row's maximum, the columns' numbers given as `io`. -/
def rowArg (io : IVec (Rows n) 32) (v : FVec Ideal (Rows n) .f32) : IVec S512x1 32 :=
  shapeCast S512x1
    (multiReductionI .minsi [1] S512
      (select (cmpf .oeq v (broadcastTo (Rows n) (rowMax hr hc v) hb)) io (broadcast (Rows n) (BitVec.ofNat 32 n)))
      2147483647#32 hr rfl) hc

/-- Where the picked column is. -/
def rowHit (io : IVec (Rows n) 32) (v : FVec Ideal (Rows n) .f32) : IVec (Rows n) 1 :=
  cmpi .eq io (broadcastTo (Rows n) (rowArg hr hc hb io v) hb)

/-- The block with each row's picked column marked by minus infinity. -/
def rowDrop (io : IVec (Rows n) 32) (v : FVec Ideal (Rows n) .f32) : FVec Ideal (Rows n) .f32 :=
  select (rowHit hr hc hb io v) (broadcast (Rows n) (Scalar.ofBits .f32 0xFF800000#32)) v

/-- The block after `i` rounds. -/
def rowLeft (io : IVec (Rows n) 32) (v : FVec Ideal (Rows n) .f32) : Nat → FVec Ideal (Rows n) .f32
  | 0 => v
  | i + 1 => rowDrop hr hc hb io (rowLeft io v i)

theorem rowLeft_none (io : IVec (Rows n) 32) (v : FVec Ideal (Rows n) .f32) : rowLeft hr hc hb io v 0 = v := rfl

/-- Rounds follow one another. -/
theorem rowLeft_rowLeft (io : IVec (Rows n) 32) (v : FVec Ideal (Rows n) .f32) (i j : Nat) :
    rowLeft hr hc hb io (rowLeft hr hc hb io v i) j = rowLeft hr hc hb io v (i + j) := by
  induction j with
  | zero => rfl
  | succ j ih => rw [rowLeft, ih]; rfl

/-- The sum along each row of the entries of `s` where `hit` is set. -/
def rowSum (s : FVec Ideal (Rows n) .f32) (hit : IVec (Rows n) 1) : FVec Ideal S512x1 .f32 :=
  shapeCast S512x1
    (multiReduction .add [1] S512 (select hit s (broadcast (Rows n) (Scalar.ofBits .f32 0x00000000#32))) 0x00000000#32 hr
      (.inl rfl) rfl) hc

variable [NeZero n]

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

theorem rowMax_apply (v : FVec Ideal (Rows n) .f32) (r : Fin 512) : rowMax hr hc v (ix2 r 0) = top (row v r) := by
  unfold rowMax
  simp only [pointwise]
  rw [ofBits_neg_inf]
  rfl

theorem broadcast_col {α : Type} (v : S512x1.Idx → α) (r : Fin 512) (e : Fin n) :
    broadcastTo (Rows n) v hb (ix2 r e) = v (ix2 r 0) := by
  simp only [pointwise]
  rfl

variable {io : IVec (Rows n) 32} (hio : ∀ r e, io (ix2 r e) = BitVec.ofNat 32 e) (hn : n < 2 ^ 31)

include hio hn in
theorem rowArg_apply (v : FVec Ideal (Rows n) .f32) (r : Fin 512) :
    rowArg hr hc hb io v (ix2 r 0) = BitVec.ofNat 32 (pick (row v r)) := by
  rw [← fold_minsi_eq_pick (row v r) hn]
  unfold rowArg
  simp only [pointwise]
  refine congrArg (fun f => Finset.fold IntOp.minsi 2147483647#32 f Finset.univ) (funext fun e => ?_)
  refine if_congr (Eq.congr rfl ?_) (hio r e) rfl
  exact rowMax_apply hr hc v r

include hio hn in
theorem rowHit_apply (v : FVec Ideal (Rows n) .f32) (r : Fin 512) (e : Fin n) :
    rowHit hr hc hb io v (ix2 r e) = if e = pick (row v r) then 1#1 else 0#1 := by
  unfold rowHit
  rw [cmpi_apply, broadcast_col, rowArg_apply hr hc hb hio hn, hio]
  have h : (BitVec.ofNat 32 e = BitVec.ofNat 32 (pick (row v r))) ↔ e = pick (row v r) := by
    rw [← BitVec.toNat_inj, BitVec.toNat_ofNat, BitVec.toNat_ofNat, Nat.mod_eq_of_lt (by omega), Nat.mod_eq_of_lt (by omega), Fin.ext_iff]
  by_cases he : e = pick (row v r)
  · simp [IntOp.cmpi, he]
  · rw [if_neg he]
    show BitVec.ofBool (_ == _) = 0#1
    rw [beq_eq_false_iff_ne.mpr fun hh => he (h.mp hh)]
    rfl

/-- A choice read at an index. -/
theorem select_at {s : Shape} {α : Type} (c : IVec s 1) (a b : s.Idx → α) (i : s.Idx) :
    select c a b i = if c i = 1#1 then a i else b i := rfl

include hio hn in
theorem row_rowDrop (v : FVec Ideal (Rows n) .f32) (r : Fin 512) :
    row (rowDrop hr hc hb io v) r = drop (row v r) := by
  funext e
  unfold row rowDrop
  rw [select_at, rowHit_apply hr hc hb hio hn, drop, Function.update_apply]
  by_cases he : e = pick (row v r)
  · rw [if_pos he, if_pos rfl]; exact ofBits_neg_inf.trans (if_pos he).symm
  · rw [if_neg he, if_neg (by decide)]; exact (if_neg he).symm

include hio hn in
theorem row_rowLeft (v : FVec Ideal (Rows n) .f32) (i : Nat) (r : Fin 512) :
    row (rowLeft hr hc hb io v i) r = left i (row v r) := by
  induction i with
  | zero => rfl
  | succ i ih => rw [rowLeft, row_rowDrop hr hc hb hio hn, ih, left_succ]

include hio hn in
/-- What round `i` takes as its column is the place that round picks from the row. -/
theorem rowArg_rowLeft (v : FVec Ideal (Rows n) .f32) (i : Nat) (r : Fin 512) :
    rowArg hr hc hb io (rowLeft hr hc hb io v i) (ix2 r 0) = BitVec.ofNat 32 (sel (row v r) i) := by
  rw [rowArg_apply hr hc hb hio hn, row_rowLeft hr hc hb hio hn]; rfl

include hio hn in
/-- The sum over the columns where the hit is set has one term: the entry of `s` at the picked column. -/
theorem rowSum_rowHit (s v : FVec Ideal (Rows n) .f32) (r : Fin 512) :
    rowSum hr hc s (rowHit hr hc hb io v) (ix2 r 0) = s (ix2 r (pick (row v r))) := by
  have h : rowSum hr hc s (rowHit hr hc hb io v) (ix2 r 0)
      = ∑ e : Fin n, select (rowHit hr hc hb io v) s (broadcast (Rows n) (Scalar.ofBits .f32 0x00000000#32)) (ix2 r e) := by
    unfold rowSum
    simp only [pointwise, Ideal.reduceAdd_def]
  rw [h, Finset.sum_eq_single (pick (row v r))]
  · rw [select_at, rowHit_apply hr hc hb hio hn, if_pos rfl, if_pos rfl]
  · intro e _ he
    rw [select_at, rowHit_apply hr hc hb hio hn, if_neg he, if_neg (by decide)]; exact ofBits_zero
  · exact fun h => absurd (Finset.mem_univ _) h

end Ops

end Cert.Proof

end
-- ==== Proof.Payload.lean ====
/- The values the kernel body computes over a block, named with the selection round: the eight group scores, the four
   rounds over them, the mask they leave, and the eight rounds over the masked scores. -/
module

public import proofs.«01_k».proof.Proof.Round
public import Idealize.ShloMosaic.Lib.Pipeline.ValueKit

@[expose] public section

set_option maxRecDepth 16384

noncomputable section

namespace Cert.Proof

open Idealize.ShloMosaic Cert.KernelIdeal Cert.KernelIdeal.Gen

/-! ### The round over the 64 experts, and the round over the eight groups -/

abbrev max64 := rowMax reduces_S512x64_S512 shapeCasts_S512_S512x1
abbrev arg64 := rowArg reduces_S512x64_S512 shapeCasts_S512_S512x1 broadcasts_S512x1_S512x64
abbrev hit64 := rowHit reduces_S512x64_S512 shapeCasts_S512_S512x1 broadcasts_S512x1_S512x64
abbrev drop64 := rowDrop reduces_S512x64_S512 shapeCasts_S512_S512x1 broadcasts_S512x1_S512x64
abbrev left64 := rowLeft reduces_S512x64_S512 shapeCasts_S512_S512x1 broadcasts_S512x1_S512x64
abbrev sum64 := rowSum reduces_S512x64_S512 shapeCasts_S512_S512x1
abbrev max8 := rowMax reduces_S512x8_S512 shapeCasts_S512_S512x1
abbrev arg8 := rowArg reduces_S512x8_S512 shapeCasts_S512_S512x1 broadcasts_S512x1_S512x8
abbrev hit8 := rowHit reduces_S512x8_S512 shapeCasts_S512_S512x1 broadcasts_S512x1_S512x8
abbrev drop8 := rowDrop reduces_S512x8_S512 shapeCasts_S512_S512x1 broadcasts_S512x1_S512x8
abbrev left8 := rowLeft reduces_S512x8_S512 shapeCasts_S512_S512x1 broadcasts_S512x1_S512x8

theorem left64_left64 (io : IVec S512x64 32) (v : FVec Ideal S512x64 .f32) (i j : Nat) :
    left64 io (left64 io v i) j = left64 io v (i + j) := rowLeft_rowLeft ..

theorem left64_add (io : IVec S512x64 32) (v : FVec Ideal S512x64 .f32) (i j k : Nat) (h : i + j = k) :
    left64 io (left64 io v i) j = left64 io v k := h ▸ left64_left64 io v i j

theorem left64_none (io : IVec S512x64 32) (v : FVec Ideal S512x64 .f32) : left64 io v 0 = v := rfl

/-- The entries of one group, minus infinity elsewhere; `gid` holds each column's group. -/
def onlyBlk (b : FVec Ideal S512x64 .f32) (gid : IVec S512x64 32) (g : BitVec 32) : FVec Ideal S512x64 .f32 :=
  select (cmpi .eq gid (broadcast S512x64 g)) b (broadcast S512x64 (Scalar.ofBits .f32 0xFF800000#32))

/-- One group's score in each row: its maximum plus the maximum of what is left. -/
def twoBest (io : IVec S512x64 32) (v : FVec Ideal S512x64 .f32) : FVec Ideal S512x1 .f32 :=
  addf (max64 v) (max64 (drop64 io v))

/-- Where a column's group is the one given for its row. -/
def inGroup (gid : IVec S512x64 32) (a : IVec S512x1 32) : IVec S512x64 1 :=
  cmpi .eq gid (broadcastTo S512x64 a broadcasts_S512x1_S512x64)

/-- Eight columns side by side. -/
def beside {α : Type} (c : Nat → S512x1.Idx → α) : S512x8.Idx → α :=
  concatenate S512x8 1 [⟨S512x1, c 0⟩, ⟨S512x1, c 1⟩, ⟨S512x1, c 2⟩, ⟨S512x1, c 3⟩, ⟨S512x1, c 4⟩, ⟨S512x1, c 5⟩, ⟨S512x1, c 6⟩, ⟨S512x1, c 7⟩]
    concatenates_S512x1_S512x1_S512x1_S512x1_S512x1_S512x1_S512x1_S512x1_S512x8_d1

/-- The block of group scores. -/
def groupBlk (io : IVec S512x64 32) (b : FVec Ideal S512x64 .f32) (gid : IVec S512x64 32) : FVec Ideal S512x8 .f32 :=
  beside fun g => twoBest io (onlyBlk b gid (BitVec.ofNat 32 g))

/-- The scores of the groups the first four rounds pick, zero elsewhere. -/
def maskBlk (b : FVec Ideal S512x64 .f32) (gid : IVec S512x64 32) (a : Nat → IVec S512x1 32) : FVec Ideal S512x64 .f32 :=
  select (ori (ori (ori (ori (broadcast S512x64 0#1) (inGroup gid (a 0))) (inGroup gid (a 1))) (inGroup gid (a 2))) (inGroup gid (a 3)))
    b (broadcast S512x64 (Scalar.ofBits .f32 0x00000000#32))

/-- The weights from the eight picked scores. -/
def weightBlk (c : FVec Ideal S512x8 .f32) : FVec Ideal S512x8 .f32 :=
  mulf (divf c (broadcastTo S512x8
      (addf (shapeCast S512x1 (multiReduction .add [1] S512 c 0x00000000#32 reduces_S512x8_S512 (.inl rfl) rfl) shapeCasts_S512_S512x1)
        (broadcast S512x1 (Scalar.ofBits .f32 0x1E3CE508#32))) broadcasts_S512x1_S512x8))
    (broadcast S512x8 (Scalar.ofBits .f32 0x40200000#32))

/-! ### The group scores -/

section Groups

variable (v7 : FVec Ideal S512x64 .f32) (v8 v32 : IVec S512x64 32)

theorem pay11_eq : k0_pay11 v7 v8 v32 = twoBest v8 (onlyBlk v7 v32 1#32) := rfl
theorem pay15_eq : k0_pay15 (k0_pay12 v7 v32) (k0_pay13 v7 v32) (k0_pay14 v7 v8 v32) (Scalar.ofBits .f32 0xFF800000#32)
    = twoBest v8 (onlyBlk v7 v32 2#32) := rfl
theorem pay16_eq : k0_pay16 v7 v8 v32 = twoBest v8 (onlyBlk v7 v32 3#32) := rfl
theorem pay17_eq : k0_pay17 v7 v8 v32 = twoBest v8 (onlyBlk v7 v32 4#32) := rfl
theorem pay19_eq : k0_pay19 v7 v8 v32 k0_pay18 = twoBest v8 (onlyBlk v7 v32 5#32) := rfl
theorem pay20_eq : k0_pay20 v7 v8 v32 = twoBest v8 (onlyBlk v7 v32 6#32) := rfl

end Groups

/-! ### The rounds over the masked scores -/

section Rounds

variable (s v : FVec Ideal S512x64 .f32) (io : IVec S512x64 32)

/-- A block's row maxima spread over its columns. -/
abbrev spread (v : FVec Ideal S512x64 .f32) : FVec Ideal S512x64 .f32 :=
  broadcastTo S512x64 (max64 v) broadcasts_S512x1_S512x64

theorem pay37_eq : k0_pay37 io v (spread v) = arg64 io v := rfl
theorem pay38_eq : k0_pay38 io v (spread v) = hit64 io v := rfl
theorem pay39_eq : k0_pay39 s io v (spread v) = sum64 s (hit64 io v) := rfl
theorem pay40_eq : k0_pay40 io v (spread v) = left64 io v 1 := rfl
theorem pay41_eq : k0_pay41 io v (spread v) = arg64 io (left64 io v 1) := by unfold k0_pay41; rw [pay40_eq]; rfl
theorem pay42_eq : k0_pay42 io v (spread v) = hit64 io (left64 io v 1) := by unfold k0_pay42; rw [pay41_eq]; rfl
theorem pay43_eq : k0_pay43 s io v (spread v) = sum64 s (hit64 io (left64 io v 1)) := by unfold k0_pay43; rw [pay42_eq]; rfl
theorem pay44_eq : k0_pay44 io v (spread v) = left64 io v 2 := by unfold k0_pay44; rw [pay42_eq, pay40_eq]; rfl
theorem pay45_eq : k0_pay45 io v (spread v) = arg64 io (left64 io v 2) := by unfold k0_pay45; rw [pay44_eq]; rfl
theorem pay46_eq : k0_pay46 io v (spread v) = hit64 io (left64 io v 2) := by unfold k0_pay46; rw [pay45_eq]; rfl
theorem pay47_eq : k0_pay47 s io v (spread v) = sum64 s (hit64 io (left64 io v 2)) := by unfold k0_pay47; rw [pay46_eq]; rfl

/-- Minus infinity, as the body writes it. -/
abbrev low : Ideal .f32 := Scalar.ofBits .f32 0xFF800000#32

theorem pay48_eq : k0_pay48 v (hit64 io v) low = left64 io v 1 := rfl
theorem pay49_eq : k0_pay49 io v (hit64 io v) low = arg64 io (left64 io v 1) := by unfold k0_pay49; rw [pay48_eq]; rfl
theorem pay50_eq : k0_pay50 io v (hit64 io v) low = hit64 io (left64 io v 1) := by unfold k0_pay50; rw [pay49_eq]; rfl
theorem pay51_eq : k0_pay51 s io v (hit64 io v) low = sum64 s (hit64 io (left64 io v 1)) := by unfold k0_pay51; rw [pay50_eq]; rfl
theorem pay52_eq : k0_pay52 io v (hit64 io v) low = left64 io v 2 := by unfold k0_pay52; rw [pay50_eq, pay48_eq]; rfl
theorem pay53_eq : k0_pay53 io v (hit64 io v) low = arg64 io (left64 io v 2) := by unfold k0_pay53; rw [pay52_eq]; rfl
theorem pay54_eq : k0_pay54 io v (hit64 io v) low = hit64 io (left64 io v 2) := by unfold k0_pay54; rw [pay53_eq]; rfl
theorem pay55_eq : k0_pay55 s io v (hit64 io v) low = sum64 s (hit64 io (left64 io v 2)) := by unfold k0_pay55; rw [pay54_eq]; rfl
theorem pay56_eq : k0_pay56 io v (hit64 io v) low = left64 io v 3 := by unfold k0_pay56; rw [pay54_eq, pay52_eq]; rfl
theorem pay57_eq : k0_pay57 io v (hit64 io v) low = arg64 io (left64 io v 3) := by unfold k0_pay57; rw [pay56_eq]; rfl
theorem pay58_eq : k0_pay58 io v (hit64 io v) low = hit64 io (left64 io v 3) := by unfold k0_pay58; rw [pay57_eq]; rfl
theorem pay1_eq : k0_pay1 io v (hit64 io v) = arg64 io (left64 io v 1) := rfl

end Rounds

/-! ### The mask -/

section Mask

variable (v7 : FVec Ideal S512x64 .f32) (v8 v32 : IVec S512x64 32) (v186 : IVec S512x8 32) (v213 : IVec S512x64 1) (v217 : FVec Ideal S512x8 .f32)

/-- A block of group scores' row maxima, one per row. -/
abbrev rowTops (v : FVec Ideal S512x8 .f32) : FVec Ideal S512 .f32 :=
  multiReduction .maximumf [1] S512 v 0xFF800000#32 reduces_S512x8_S512 (.inl rfl) rfl

theorem pay31_eq : k0_pay31 v7 v32 v186 v213 v217 (rowTops v217)
    = select (ori (ori v213 (inGroup v32 (arg8 v186 v217))) (inGroup v32 (arg8 v186 (left8 v186 v217 1))))
        v7 (broadcast S512x64 (Scalar.ofBits .f32 0x00000000#32)) := rfl

variable (v218 : FVec Ideal S512 .f32)

theorem pay32_eq : k0_pay32 v7 v8 v32 v186 v213 v217 v218 = arg64 v8 (k0_pay31 v7 v32 v186 v213 v217 v218) := rfl
theorem pay33_eq : k0_pay33 v7 v8 v32 v186 v213 v217 v218 = hit64 v8 (k0_pay31 v7 v32 v186 v213 v217 v218) := rfl
theorem pay34_eq (s : FVec Ideal S512x64 .f32) :
    k0_pay34 s v7 v8 v32 v186 v213 v217 v218 = sum64 s (hit64 v8 (k0_pay31 v7 v32 v186 v213 v217 v218)) := rfl
theorem pay35_eq : k0_pay35 v7 v8 v32 v186 v213 v217 v218 = left64 v8 (k0_pay31 v7 v32 v186 v213 v217 v218) 1 := rfl
theorem pay36_eq : k0_pay36 v7 v8 v32 v186 v213 v217 v218 = spread (left64 v8 (k0_pay31 v7 v32 v186 v213 v217 v218) 1) := by
  unfold k0_pay36; rw [pay35_eq]; rfl

end Mask

/-! ### The four rounds over the group scores -/

section Four

variable (v7 : FVec Ideal S512x64 .f32) (v8 v32 : IVec S512x64 32)
  (v51 v70 v89 v108 v127 v146 v165 v171 : FVec Ideal S512x1 .f32) (v169 v172 : FVec Ideal S512x64 .f32)

/-- The columns' numbers over eight columns. -/
abbrev io8 : IVec S512x8 32 := iota .tc S512x8 32 [1] iota_S512x8_d1_w32

theorem pay25_eq : k0_pay25 v8 v51 v70 v89 v108 v127 v146 v165 v169 v171 v172 = arg8 io8 (k0_pay24 v8 v51 v70 v89 v108 v127 v146 v165 v169 v171 v172) := rfl
theorem pay26_eq : k0_pay26 v8 v51 v70 v89 v108 v127 v146 v165 v169 v171 v172 = left8 io8 (k0_pay24 v8 v51 v70 v89 v108 v127 v146 v165 v169 v171 v172) 1 := by
  unfold k0_pay26; rw [pay25_eq]; rfl
theorem pay27_eq : k0_pay27 v8 v51 v70 v89 v108 v127 v146 v165 v169 v171 v172 = arg8 io8 (left8 io8 (k0_pay24 v8 v51 v70 v89 v108 v127 v146 v165 v169 v171 v172) 1) := by
  unfold k0_pay27; rw [pay26_eq]; rfl
theorem pay28_eq : k0_pay28 v8 v32 v51 v70 v89 v108 v127 v146 v165 v169 v171 v172
    = ori (ori (broadcast S512x64 0#1) (inGroup v32 (arg8 io8 (k0_pay24 v8 v51 v70 v89 v108 v127 v146 v165 v169 v171 v172)))) (inGroup v32 (arg8 io8 (left8 io8 (k0_pay24 v8 v51 v70 v89 v108 v127 v146 v165 v169 v171 v172) 1))) := by
  unfold k0_pay28; rw [pay27_eq, pay25_eq]; rfl
theorem pay29_eq : k0_pay29 v8 v51 v70 v89 v108 v127 v146 v165 v169 v171 v172 = left8 io8 (k0_pay24 v8 v51 v70 v89 v108 v127 v146 v165 v169 v171 v172) 2 := by
  unfold k0_pay29; rw [pay27_eq, pay26_eq]; rfl
theorem pay30_eq : k0_pay30 v8 v51 v70 v89 v108 v127 v146 v165 v169 v171 v172 = rowTops (left8 io8 (k0_pay24 v8 v51 v70 v89 v108 v127 v146 v165 v169 v171 v172) 2) := by
  unfold k0_pay30; rw [pay29_eq]

end Four

end Cert.Proof

end
-- ==== Proof.Block.lean ====
/- One block of 512 tokens: what the kernel body stores for it, read at an index, is the router's expert and weight for
   that token. -/
module

public import proofs.«01_k».proof.Proof.Payload

@[expose] public section

set_option maxRecDepth 16384

noncomputable section

namespace Cert.Proof

open Idealize.ShloMosaic Cert.KernelIdeal Cert.KernelIdeal.Gen

/-! ### The stores, as rounds -/

section Stores

variable (x0 : Vec Ideal S512x4096 .f32) (x1 : Vec Ideal S4096x64 .f32) (x2 : Vec Ideal S1x64 .f32)

/-- The block of scores. -/
abbrev sBlk : FVec Ideal S512x64 .f32 := k0_pay60 x0 x1 x2
/-- The block of scores with the bias added. -/
abbrev bBlk : FVec Ideal S512x64 .f32 := k0_pay61 x0 x1 x2
/-- The columns' numbers over 64 columns. -/
abbrev io64 : IVec S512x64 32 := iota .tc S512x64 32 [1] iota_S512x64_d1_w32
/-- Each column's group. -/
abbrev gid64 : IVec S512x64 32 := k0_pay6
/-- The block of group scores. -/
abbrev gBlk : FVec Ideal S512x8 .f32 := groupBlk io64 (bBlk x0 x1 x2) gid64
/-- The block of masked scores. -/
abbrev mBlk : FVec Ideal S512x64 .f32 :=
  maskBlk (bBlk x0 x1 x2) gid64 fun i => arg8 io8 (left8 io8 (gBlk x0 x1 x2) i)

theorem pay63_eq : k0_pay63 x0 x1 x2 = twoBest io64 (onlyBlk (bBlk x0 x1 x2) gid64 0#32) := rfl
theorem pay64_eq : k0_pay64 x0 x1 x2 = twoBest io64 (onlyBlk (bBlk x0 x1 x2) gid64 1#32) := pay11_eq ..
theorem pay65_eq : k0_pay65 x0 x1 x2 = twoBest io64 (onlyBlk (bBlk x0 x1 x2) gid64 2#32) := pay15_eq ..
theorem pay66_eq : k0_pay66 x0 x1 x2 = twoBest io64 (onlyBlk (bBlk x0 x1 x2) gid64 3#32) := pay16_eq ..
theorem pay67_eq : k0_pay67 x0 x1 x2 = twoBest io64 (onlyBlk (bBlk x0 x1 x2) gid64 4#32) := pay17_eq ..
theorem pay68_eq : k0_pay68 x0 x1 x2 = twoBest io64 (onlyBlk (bBlk x0 x1 x2) gid64 5#32) := pay19_eq ..
theorem pay69_eq : k0_pay69 x0 x1 x2 = twoBest io64 (onlyBlk (bBlk x0 x1 x2) gid64 6#32) := pay20_eq ..

theorem pay24_eq : k0_pay24 (k0_pay59 x0 x1 x2) (k0_pay63 x0 x1 x2) (k0_pay64 x0 x1 x2) (k0_pay65 x0 x1 x2) (k0_pay66 x0 x1 x2)
      (k0_pay67 x0 x1 x2) (k0_pay68 x0 x1 x2) (k0_pay69 x0 x1 x2) (k0_pay70 x0 x1 x2) (k0_pay71 x0 x1 x2) (k0_pay72 x0 x1 x2)
    = gBlk x0 x1 x2 := by
  rw [pay63_eq, pay64_eq, pay65_eq, pay66_eq, pay67_eq, pay68_eq, pay69_eq]; rfl

theorem pay74_eq : k0_pay74 x0 x1 x2
    = ori (ori (broadcast S512x64 0#1) (inGroup gid64 (arg8 io8 (gBlk x0 x1 x2)))) (inGroup gid64 (arg8 io8 (left8 io8 (gBlk x0 x1 x2) 1))) := by
  unfold k0_pay74; rw [pay28_eq, pay24_eq]; rfl
theorem pay75_eq : k0_pay75 x0 x1 x2 = left8 io8 (gBlk x0 x1 x2) 2 := by unfold k0_pay75; rw [pay29_eq, pay24_eq]
theorem pay76_eq : k0_pay76 x0 x1 x2 = rowTops (left8 io8 (gBlk x0 x1 x2) 2) := by unfold k0_pay76; rw [pay30_eq, pay24_eq]

theorem mask_eq : k0_pay31 (k0_pay61 x0 x1 x2) (k0_pay62 x0 x1 x2) (k0_pay73 x0 x1 x2) (k0_pay74 x0 x1 x2) (k0_pay75 x0 x1 x2) (k0_pay76 x0 x1 x2)
    = mBlk x0 x1 x2 := by
  rw [pay74_eq, pay75_eq, pay76_eq, pay31_eq]; rfl

theorem io_eq : k0_pay59 x0 x1 x2 = io64 := rfl

theorem pay77_eq : k0_pay77 x0 x1 x2 = left64 io64 (mBlk x0 x1 x2) 1 := by unfold k0_pay77; rw [pay35_eq, mask_eq]; rfl
theorem pay78_eq : k0_pay78 x0 x1 x2 = spread (left64 io64 (mBlk x0 x1 x2) 1) := by unfold k0_pay78; rw [pay36_eq, mask_eq]; rfl
theorem pay79_eq : k0_pay79 x0 x1 x2 = left64 io64 (mBlk x0 x1 x2) 3 := by
  unfold k0_pay79; rw [io_eq, pay77_eq, pay78_eq, pay44_eq, left64_left64]
theorem pay80_eq : k0_pay80 x0 x1 x2 = hit64 io64 (left64 io64 (mBlk x0 x1 x2) 3) := by
  unfold k0_pay80; rw [io_eq, pay77_eq, pay78_eq, pay46_eq, left64_left64]
theorem pay81_eq : k0_pay81 x0 x1 x2 = left64 io64 (mBlk x0 x1 x2) 6 := by
  unfold k0_pay81; rw [io_eq, pay79_eq, pay80_eq]; rw [pay56_eq, left64_left64]
theorem pay82_eq : k0_pay82 x0 x1 x2 = hit64 io64 (left64 io64 (mBlk x0 x1 x2) 6) := by
  unfold k0_pay82; rw [io_eq, pay79_eq, pay80_eq]; rw [pay58_eq, left64_left64]

theorem off_zero : (![0, 0] : Fin 2 → Nat) = fun _ => 0 := by funext a; fin_cases a <;> rfl

/-- The stored block of experts: round `i`'s column in column `i`. -/
theorem out4_eq : out0_4 x0 x1 x2 = beside fun i => arg64 io64 (left64 io64 (mBlk x0 x1 x2) i) := by
  unfold out0_4
  rw [View.canon_unit_zero off_zero, pay32_eq, mask_eq, pay77_eq, pay78_eq, pay79_eq, pay80_eq, pay81_eq, pay82_eq]
  unfold k0_pay2
  rw [io_eq, pay1_eq, pay37_eq, pay41_eq, pay45_eq, pay49_eq, pay53_eq, pay57_eq]
  rw [left64_add _ _ 1 1 2 rfl, left64_add _ _ 1 2 3 rfl, left64_add _ _ 3 1 4 rfl, left64_add _ _ 3 2 5 rfl,
    left64_add _ _ 3 3 6 rfl, left64_add _ _ 6 1 7 rfl]
  rfl

/-- The stored block of weights, from the picked columns' scores. -/
theorem out3_eq : out0_3 x0 x1 x2
    = weightBlk (beside fun i => sum64 (sBlk x0 x1 x2) (hit64 io64 (left64 io64 (mBlk x0 x1 x2) i))) := by
  unfold out0_3
  rw [View.canon_unit_zero off_zero, pay34_eq, mask_eq, pay77_eq, pay78_eq, pay79_eq, pay80_eq, pay81_eq, pay82_eq]
  unfold k0_pay3
  rw [io_eq, pay1_eq, pay39_eq, pay43_eq, pay47_eq, pay51_eq, pay55_eq]
  rw [left64_add _ _ 1 1 2 rfl, left64_add _ _ 1 2 3 rfl, left64_add _ _ 3 1 4 rfl, left64_add _ _ 3 2 5 rfl,
    left64_add _ _ 6 1 7 rfl]
  rfl

end Stores

end Cert.Proof

end
-- ==== Proof.Values.lean ====
/- The stored blocks read at an index: token `r`, place `i` of a block holds the router's expert and weight for the row. -/
module

public import proofs.«01_k».proof.Proof.Block

@[expose] public section

set_option maxRecDepth 16384

noncomputable section

namespace Cert.Proof

open Idealize.ShloMosaic Cert.KernelIdeal Cert.KernelIdeal.Gen

/-! ### The columns' numbers and groups -/

theorem io64_apply (r : Fin 512) (e : Fin 64) : io64 (ix2 r e) = BitVec.ofNat 32 e := by
  simp only [pointwise]
  simp

theorem io8_apply (r : Fin 512) (e : Fin 8) : io8 (ix2 r e) = BitVec.ofNat 32 e := by
  simp only [pointwise]
  simp

/-- The body's rounded-down quotient by eight, on one word. -/
def wordGroup (w : BitVec 32) : BitVec 32 :=
  Scalar.select
    (IntOp.andi (IntOp.cmpi .ne (IntOp.subi ((IntOp.cmpi .sgt w 0#32).setWidth 32) ((IntOp.cmpi .slt w 0#32).setWidth 32)) 1#32)
      (IntOp.cmpi .ne (IntOp.remsi .vector w 8#32) 0#32))
    (IntOp.subi (IntOp.divsi .vector w 8#32) 1#32) (IntOp.divsi .vector w 8#32)

theorem gid_apply (r : Fin 512) (e : Fin 64) : gid64 (ix2 r e) = BitVec.ofNat 32 (groupOf e) := by
  have h : gid64 (ix2 r e) = wordGroup (io64 (ix2 r e)) := rfl
  rw [h, io64_apply]
  exact (by decide +kernel : ∀ e : Fin 64, wordGroup (BitVec.ofNat 32 e) = BitVec.ofNat 32 (groupOf e)) e

/-- Two small numbers are equal as words only if they are equal. -/
theorem cmpi_ofNat {n : Nat} (hn : n < 2 ^ 31) (a b : Fin n) :
    IntOp.cmpi .eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega), Fin.ext_iff]
  by_cases hab : a = b
  · simp [IntOp.cmpi, hab]
  · rw [if_neg hab]
    show BitVec.ofBool (_ == _) = 0#1
    rw [beq_eq_false_iff_ne.mpr fun hh => hab (h.mp hh)]
    rfl

theorem beside_apply {α : Type} (c : Nat → S512x1.Idx → α) (r : Fin 512) (i : Fin 8) : beside c (ix2 r i) = c i (ix2 r 0) := by
  refine (show beside c (ix2 r i) = concatenate S512x8 1 (List.ofFn fun n : Fin 8 => (⟨S512x1, c n⟩ : (s : Shape) × (s.Idx → α)))
    concatenates_S512x1_S512x1_S512x1_S512x1_S512x1_S512x1_S512x1_S512x1_S512x8_d1 (ix2 r i) from rfl).trans ?_
  refine concatenate_ofFn_unit_apply (s₁ := S512x1) (t := S512x8) 1 (fun n : Fin 8 => c n) _ rfl rfl (ix2 r i) i rfl (ix2 r 0) ?_
  intro b hb
  fin_cases b
  · rfl
  · exact absurd rfl hb

/-! ### The round at a row, over 64 columns and over eight -/

section AtRow

variable (s v : FVec Ideal S512x64 .f32) (u : FVec Ideal S512x8 .f32) (i : Nat) (r : Fin 512)

theorem max64_apply : max64 v (ix2 r 0) = top (row v r) := rowMax_apply ..
theorem row_drop64 : row (drop64 io64 v) r = drop (row v r) := row_rowDrop _ _ _ io64_apply (by norm_num) v r
theorem row_left64 : row (left64 io64 v i) r = left i (row v r) := row_rowLeft _ _ _ io64_apply (by norm_num) v i r
theorem arg64_left64 : arg64 io64 (left64 io64 v i) (ix2 r 0) = BitVec.ofNat 32 (sel (row v r) i) :=
  rowArg_rowLeft _ _ _ io64_apply (by norm_num) v i r
theorem arg8_left8 : arg8 io8 (left8 io8 u i) (ix2 r 0) = BitVec.ofNat 32 (sel (row u r) i) :=
  rowArg_rowLeft _ _ _ io8_apply (by norm_num) u i r
theorem sum64_hit64 : sum64 s (hit64 io64 v) (ix2 r 0) = s (ix2 r (pick (row v r))) :=
  rowSum_rowHit _ _ _ io64_apply (by norm_num) s v r

end AtRow

/-! ### The group scores -/

section Rows

variable (b : FVec Ideal S512x64 .f32) (r : Fin 512)

theorem row_onlyBlk (g : Fin 8) : row (onlyBlk b gid64 (BitVec.ofNat 32 g)) r = only g (row b r) := by
  funext e
  have h : row (onlyBlk b gid64 (BitVec.ofNat 32 g)) r e
      = if IntOp.cmpi .eq (gid64 (ix2 r e)) (BitVec.ofNat 32 g) = 1#1 then b (ix2 r e) else Ideal.ofBits .f32 0xFF800000#32 := rfl
  rw [h, gid_apply, cmpi_ofNat (by norm_num), ofBits_neg_inf, only]
  by_cases hg : groupOf e = g
  · rw [if_pos hg, if_pos hg, if_pos rfl]; rfl
  · rw [if_neg hg, if_neg hg, if_neg (by decide)]

variable (hv : ∀ e, row b r e ≠ ⊥)

include hv in
theorem twoBest_apply (g : Fin 8) :
    twoBest io64 (onlyBlk b gid64 (BitVec.ofNat 32 g)) (ix2 r 0) = groupScore (row b r) g := by
  have h : twoBest io64 (onlyBlk b gid64 (BitVec.ofNat 32 g)) (ix2 r 0)
      = max64 (onlyBlk b gid64 (BitVec.ofNat 32 g)) (ix2 r 0) + max64 (drop64 io64 (onlyBlk b gid64 (BitVec.ofNat 32 g))) (ix2 r 0) := rfl
  rw [h, max64_apply, max64_apply, row_drop64, row_onlyBlk, top_only, top_drop_only _ _ hv, groupScore]

include hv in
theorem row_groupBlk : row (groupBlk io64 b gid64) r = groupScore (row b r) := by
  funext g
  unfold groupBlk row
  rw [beside_apply]
  exact twoBest_apply b r hv g

/-! ### The mask -/

theorem inGroup_apply (a : IVec S512x1 32) (g : Fin 8) (ha : a (ix2 r 0) = BitVec.ofNat 32 g) (e : Fin 64) :
    inGroup gid64 a (ix2 r e) = if groupOf e = g then 1#1 else 0#1 := by
  have h : inGroup gid64 a (ix2 r e)
      = IntOp.cmpi .eq (gid64 (ix2 r e)) (broadcastTo S512x64 a broadcasts_S512x1_S512x64 (ix2 r e)) := rfl
  rw [h, broadcast_col, gid_apply, ha, cmpi_ofNat (by norm_num)]

theorem ori_ite (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

include hv in
theorem row_maskBlk :
    row (maskBlk b gid64 fun i => arg8 io8 (left8 io8 (groupBlk io64 b gid64) i)) r = masked (row b r) := by
  have ha : ∀ i, arg8 io8 (left8 io8 (groupBlk io64 b gid64) i) (ix2 r 0) = BitVec.ofNat 32 (sel (groupScore (row b r)) i) := fun i => by
    rw [arg8_left8, row_groupBlk b r hv]
  funext e
  have h : row (maskBlk b gid64 fun i => arg8 io8 (left8 io8 (groupBlk io64 b gid64) i)) r e
      = if IntOp.ori (IntOp.ori (IntOp.ori (IntOp.ori 0#1
            (inGroup gid64 (arg8 io8 (left8 io8 (groupBlk io64 b gid64) 0)) (ix2 r e)))
            (inGroup gid64 (arg8 io8 (left8 io8 (groupBlk io64 b gid64) 1)) (ix2 r e)))
            (inGroup gid64 (arg8 io8 (left8 io8 (groupBlk io64 b gid64) 2)) (ix2 r e)))
            (inGroup gid64 (arg8 io8 (left8 io8 (groupBlk io64 b gid64) 3)) (ix2 r e)) = 1#1
        then b (ix2 r e) else Ideal.ofBits .f32 0x00000000#32 := rfl
  rw [h, inGroup_apply r _ _ (ha 0), inGroup_apply r _ _ (ha 1), inGroup_apply r _ _ (ha 2), inGroup_apply r _ _ (ha 3)]
  rw [show ∀ x, IntOp.ori 0#1 x = IntOp.ori (if False then 1#1 else 0#1) x from fun x => rfl, ori_ite, ori_ite, ori_ite, ori_ite, ofBits_zero, masked]
  have hk : Kept (row b r) (groupOf e) ↔ ((((False ∨ groupOf e = sel (groupScore (row b r)) 0) ∨ groupOf e = sel (groupScore (row b r)) 1)
      ∨ groupOf e = sel (groupScore (row b r)) 2) ∨ groupOf e = sel (groupScore (row b r)) 3) := by
    constructor
    · rintro ⟨i, hi, hs⟩
      interval_cases i <;> simp [hs]
    · rintro ((((h | h) | h) | h) | h)
      · exact h.elim
      · exact ⟨0, by norm_num, h.symm⟩
      · exact ⟨1, by norm_num, h.symm⟩
      · exact ⟨2, by norm_num, h.symm⟩
      · exact ⟨3, by norm_num, h.symm⟩
  by_cases hc : Kept (row b r) (groupOf e)
  · rw [if_pos hc, if_pos (hk.mp hc), if_pos rfl]; rfl
  · rw [if_neg hc, if_neg fun hh => hc (hk.mpr hh), if_neg (by decide)]

end Rows

/-! ### The stores at an index -/

section Stores

variable (x0 : Vec Ideal S512x4096 .f32) (x1 : Vec Ideal S4096x64 .f32) (x2 : Vec Ideal S1x64 .f32) (r : Fin 512)

theorem sBlk_apply (e : Fin 64) :
    sBlk x0 x1 x2 (ix2 r e) = scores (fun k => x0 (ix2 r k)) (fun k e => x1 (ix2 k e)) e := by
  have h : sBlk x0 x1 x2 (ix2 r e)
      = Ideal.logistic (matmul (F := Ideal) (φ₁ := .f32) (φ₂ := .f32) dot_S512x4096_S4096x64_S512x64_1_0_0_1_n_n none x0 x1 (constant S512x64 .f32 0x00000000#32) (ix2 r e)) := by
    unfold sBlk k0_pay60
    rw [View.ld_unit_zero off_zero, View.ld_unit_zero off_zero]
    rfl
  rw [h, scores]
  simp only [pointwise, ofBits_zero, zero_add]

theorem bBlk_apply (e : Fin 64) :
    bBlk x0 x1 x2 (ix2 r e) = scores (fun k => x0 (ix2 r k)) (fun k e => x1 (ix2 k e)) e + x2 (ix2 0 e) := by
  have h : bBlk x0 x1 x2 (ix2 r e)
      = sBlk x0 x1 x2 (ix2 r e)
        + broadcastTo S512x64 (shapeCast S1x64 x2 shapeCasts_S1x64_S1x64) broadcasts_S1x64_S512x64 (ix2 r e) := by
    unfold bBlk sBlk k0_pay61 k0_pay60
    rw [View.ld_unit_zero off_zero, View.ld_unit_zero off_zero, View.ld_unit_zero off_zero]
    rfl
  rw [h, sBlk_apply]
  simp only [pointwise]
  rfl

variable (hv : ∀ e, row (bBlk x0 x1 x2) r e ≠ ⊥)

include hv in
theorem row_mBlk : row (mBlk x0 x1 x2) r = masked (row (bBlk x0 x1 x2) r) := row_maskBlk _ r hv

include hv in
theorem out4_apply (i : Fin 8) :
    out0_4 x0 x1 x2 (ix2 r i) = BitVec.ofNat 32 (expert (row (bBlk x0 x1 x2) r) i) := by
  rw [out4_eq, beside_apply, arg64_left64, row_mBlk x0 x1 x2 r hv, expert]

include hv in
/-- The picked score in column `i`. -/
theorem picked_apply (i : Fin 8) :
    beside (fun i => sum64 (sBlk x0 x1 x2) (hit64 io64 (left64 io64 (mBlk x0 x1 x2) i))) (ix2 r i)
      = row (sBlk x0 x1 x2) r (expert (row (bBlk x0 x1 x2) r) i) := by
  rw [beside_apply, sum64_hit64, row_left64, row_mBlk x0 x1 x2 r hv]
  rfl

theorem weightBlk_apply (c : FVec Ideal S512x8 .f32) (i : Fin 8) :
    weightBlk c (ix2 r i)
      = Ideal.div (c (ix2 r i)) ((∑ j : Fin 8, c (ix2 r j)) + Ideal.ofBits .f32 0x1E3CE508#32) * Ideal.ofBits .f32 0x40200000#32 := by
  unfold weightBlk
  simp only [pointwise]
  rfl

include hv in
theorem out3_apply (i : Fin 8) :
    out0_3 x0 x1 x2 (ix2 r i) = weight (row (sBlk x0 x1 x2) r) (row (bBlk x0 x1 x2) r) i := by
  rw [out3_eq, weightBlk_apply, picked_apply x0 x1 x2 r hv, weight]
  simp only [picked_apply x0 x1 x2 r hv]

end Stores

end Cert.Proof

end
-- ==== Proof.Result.lean ====
/- The router's two results over all the tokens, as functions of the three argument arrays. -/
module

public import proofs.«01_k».proof.Proof.Spec
public import Idealize.ShloMosaic.Lib.Pointwise

@[expose] public section

noncomputable section

namespace Cert.Proof

open Idealize.ShloMosaic

variable (x : (⟨2, ![16384, 4096]⟩ : Shape).Idx → EReal) (w : (⟨2, ![4096, 64]⟩ : Shape).Idx → EReal)
  (b : (⟨1, ![64]⟩ : Shape).Idx → EReal)

/-- Token `n`'s scores. -/
def sRow (n : Fin 16384) : Fin 64 → EReal := scores (fun k => x (ix2 n k)) fun k e => w (ix2 k e)

/-- Token `n`'s scores with the bias added. -/
def bRow (n : Fin 16384) (e : Fin 64) : EReal := sRow x w n e + b (ix1 e)

theorem bRow_ne_bot (hb : ∀ e, b (ix1 e) ≠ ⊥) (n : Fin 16384) (e : Fin 64) : bRow x w b n e ≠ ⊥ :=
  scores_add_ne_bot _ _ (fun e => b (ix1 e)) hb e

/-- The weight of each token's `i`-th expert. -/
def weights (j : (⟨2, ![16384, 8]⟩ : Shape).Idx) : EReal :=
  weight (sRow x w (j 0)) (bRow x w b (j 0)) (j 1 : Fin 8)

/-- The number of each token's `i`-th expert. -/
def experts (j : (⟨2, ![16384, 8]⟩ : Shape).Idx) : BitVec 32 :=
  BitVec.ofNat 32 (expert (bRow x w b (j 0)) (j 1 : Fin 8))

end Cert.Proof

end
-- ==== Proof.Array.lean ====
/- The kernel's run: the 32 blocks of 512 tokens tile the two result arrays, which end at the router's weights and
   experts of the three argument arrays. -/
module

public import proofs.«01_k».proof.Proof.Values
public import proofs.«01_k».proof.Proof.Result
public import proofs.«01_k».proof.Proof.Gen.KernelIdeal.Value

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)

abbrev argX : FVec Ideal S16384x4096 .f32 := m ((c : Thread nD τ).loc main_arg0)
abbrev argW : FVec Ideal S4096x64 .f32 := m ((c : Thread nD τ).loc main_arg1)
abbrev argB : FVec Ideal S64 .f32 := m ((c : Thread nD τ).loc main_arg2)

/-! ### The input blocks -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])

/-- Block `t`'s row `r`, as a token. -/
def token (t : Fin cfg0.N) (r : Fin 512) : Fin 16384 := ⟨t.val * 512 + r.val, by have : t.val < 32 := t.isLt.trans_eq N_0; omega⟩

theorem token_val (t : Fin cfg0.N) (r : Fin 512) : (token t r : Nat) = t.val * 512 + r.val := rfl

theorem blkX_apply (t : Fin cfg0.N) (r : Fin 512) (k : Fin 4096) : iblk m c 0 t (ix2 r k) = argX m c (ix2 (token t r) k) := by
  show V m c main_arg0 ((win0_0.blk t).view.emb (ix2 r k)) = _
  rw [V_main_arg0]
  refine congrArg (argX m c) ?_
  blk_ext [index0, token_val]

theorem blkW_apply (t : Fin cfg0.N) (k : Fin 4096) (e : Fin 64) : iblk m c 1 t (ix2 k e) = argW m c (ix2 k e) := by
  show V m c main_arg1 ((win0_1.blk t).view.emb (ix2 k e)) = _
  rw [V_main_arg1]
  refine congrArg (argW m c) ?_
  blk_ext [index1]

theorem V_bias : V m c main_v0 = shapeCast S1x64 (argB m c) shapeCasts_S64_S1x64 := by
  show StableHlo.after hostOps0 _ (Proc.devRef .tc main_v0) = _
  after_results
  rfl

theorem blkB_apply (t : Fin cfg0.N) (e : Fin 64) : iblk m c 2 t (ix2 0 e) = argB m c (ix1 e) := by
  show V m c main_v0 ((win0_2.blk t).view.emb (ix2 0 e)) = _
  have h : (win0_2.blk t).view.emb (ix2 0 e) = (ix2 0 e : S1x64.Idx) := by blk_ext [index2]
  rw [h, V_bias]
  simp only [pointwise]

/-! ### The rows of a block -/

theorem row_sBlk (t : Fin cfg0.N) (r : Fin 512) :
    row (sBlk (iblk m c 0 t) (iblk m c 1 t) (iblk m c 2 t)) r = sRow (argX m c) (argW m c) (token t r) := by
  funext e
  refine (sBlk_apply (iblk m c 0 t) (iblk m c 1 t) (iblk m c 2 t) r e).trans ?_
  simp only [blkX_apply, blkW_apply]
  rfl

theorem row_bBlk (t : Fin cfg0.N) (r : Fin 512) :
    row (bBlk (iblk m c 0 t) (iblk m c 1 t) (iblk m c 2 t)) r = bRow (argX m c) (argW m c) (argB m c) (token t r) := by
  funext e
  refine (bBlk_apply _ _ _ r e).trans ?_
  simp only [blkX_apply, blkW_apply, blkB_apply]
  rfl

variable (hb : ∀ e, argB m c (ix1 e) ≠ ⊥)

include hb in
theorem row_ne_bot (t : Fin cfg0.N) (r : Fin 512) (e : Fin 64) :
    row (bBlk (iblk m c 0 t) (iblk m c 1 t) (iblk m c 2 t)) r e ≠ ⊥ := by
  rw [row_bBlk]; exact bRow_ne_bot _ _ _ hb _ e

/-! ### The two result arrays -/

include hb in
theorem final3 : (dats m 0 c).arrAt 3 cfg0.N = weights (argX m c) (argW m c) (argB m c) := by
  refine (dats m 0 c).arrAt_eq_of_covers 3 _ (by decide +kernel) fun t hf y => ?_
  obtain ⟨r, i, rfl⟩ : ∃ (r : Fin 512) (i : Fin 8), y = ix2 r i := ⟨y 0, y 1, by blk_ext⟩
  have he : (win0_3.blk t).view.emb (ix2 r i) = (ix2 (token t r) i : S16384x8.Idx) := by blk_ext [index3, token_val]
  show (dats m 0 c).after 3 t (ix2 r i) = weights _ _ _ ((win0_3.blk t).view.emb (ix2 r i))
  rw [after0_3, he, out3_apply _ _ _ r (row_ne_bot m c hb t r), row_sBlk, row_bBlk]
  rfl

include hb in
theorem final4 : (dats m 0 c).arrAt 4 cfg0.N = experts (argX m c) (argW m c) (argB m c) := by
  refine (dats m 0 c).arrAt_eq_of_covers 4 _ (by decide +kernel) fun t hf y => ?_
  obtain ⟨r, i, rfl⟩ : ∃ (r : Fin 512) (i : Fin 8), y = ix2 r i := ⟨y 0, y 1, by blk_ext⟩
  have he : (win0_4.blk t).view.emb (ix2 r i) = (ix2 (token t r) i : S16384x8.Idx) := by blk_ext [index4, token_val]
  show (dats m 0 c).after 4 t (ix2 r i) = experts _ _ _ ((win0_4.blk t).view.emb (ix2 r i))
  rw [after0_4, he, out4_apply _ _ _ r (row_ne_bot m c hb t r), row_bBlk]
  rfl

end Cert.Proof

end
-- ==== Proof.TopK.lean ====
/- The host's top-k read at an index: on a row without minus infinity, its entries and places are those picked by
   repeated selection of the largest entry. -/
module

public import proofs.«01_k».proof.Proof.Pick
public import Idealize.ShloMosaic.Lib.Pointwise

@[expose] public section

noncomputable section

namespace Cert.Proof

open Idealize.ShloMosaic

/-- "Greater" on the extended reals, as the bit the sort compares with one. -/
theorem gt_bit (a b : EReal) : (FloatOps.cmpfTotal (F := Ideal) (φ := .f32) .gt a b == 1#1) = decide (b < a) := by
  show (BitVec.ofBool (decide (b < a)) == 1#1) = decide (b < a)
  by_cases h : b < a <;> simp [h]

section Rows

variable {R n k : Nat} [NeZero n] (x : (⟨2, ![R, n]⟩ : Shape).Idx → EReal)
  (h : (⟨2, ![R, n]⟩ : Shape).Slices (fun _ => 0) ⟨2, ![R, k]⟩) (hk : k ≤ n) (r : Fin R) (i : Fin k)

/-- Place `i` of the sorted row that `j` lies on. -/
def place (j : (⟨2, ![R, n]⟩ : Shape).Idx) (i : Fin n) : Fin n :=
  sortedFrom (fun l l' : Fin n =>
    FloatOps.cmpfTotal (F := Ideal) (φ := .f32) .gt (x (j.along (1 : Fin 2) l)) (x (j.along (1 : Fin 2) l')) == 1#1) i

theorem along_row (j l : Fin n) : (ix2 r j : (⟨2, ![R, n]⟩ : Shape).Idx).along (1 : Fin 2) l = ix2 r l := by
  funext a
  match a with
  | ⟨0, _⟩ => exact Function.update_of_ne (Fin.ne_of_val_ne Nat.zero_ne_one) _ _
  | ⟨1, _⟩ => exact Function.update_self _ _ _

/-- The place the slice of a sorted row reads. -/
abbrev slot : (⟨2, ![R, n]⟩ : Shape).Idx := fun a =>
  ⟨0 + ((ix2 r i : (⟨2, ![R, k]⟩ : Shape).Idx) (a.cast h.1.symm)).val,
    Nat.lt_of_lt_of_le (Nat.add_lt_add_left (Fin.isLt _) _) (h.2 a)⟩

theorem slot_eq : slot h r i = ix2 r (i.castLE hk) := by
  funext a
  match a with
  | ⟨0, _⟩ => exact Fin.ext (Nat.zero_add _)
  | ⟨1, _⟩ => exact Fin.ext (Nat.zero_add _)

variable (hv : ∀ e, x (ix2 r e) ≠ ⊥)

include hv in
theorem place_eq (j : Fin n) : place x (ix2 r j) (i.castLE hk) = sel (fun e => x (ix2 r e)) i := by
  rw [← sortedFrom_eq_sel (fun e => x (ix2 r e)) hv hk i]
  refine congrArg (fun f : Fin n → Fin n → Bool => sortedFrom f (i.castLE hk)) (funext fun l => funext fun l' => ?_)
  rw [gt_bit, along_row, along_row]

include hv hk in
/-- Where the sorted row reads its operand for the slice's entry. -/
theorem found_eq : (slot h r i).along (1 : Fin 2) (place (n := n) x (slot h r i) (slot h r i (1 : Fin 2)))
    = ix2 r (sel (fun e => x (ix2 r e)) i) := by
  refine (congrArg (fun j : (⟨2, ![R, n]⟩ : Shape).Idx => j.along (1 : Fin 2) (place (n := n) x j (j (1 : Fin 2))))
    (slot_eq h hk r i)).trans ?_
  exact (along_row r _ _).trans (congrArg (ix2 r) (place_eq x hk r i hv (i.castLE hk)))

include hv hk in
theorem topK_values : (Host.topK ⟨2, ![R, k]⟩ 1 (FloatOps.cmpfTotal (F := Ideal) (φ := .f32) .gt) x h).1 (ix2 r i)
    = x (ix2 r (sel (fun e => x (ix2 r e)) i)) := by
  exact congrArg x (found_eq x h hk r i hv)

include hv hk in
theorem topK_places : (Host.topK ⟨2, ![R, k]⟩ 1 (FloatOps.cmpfTotal (F := Ideal) (φ := .f32) .gt) x h).2 (ix2 r i)
    = BitVec.ofNat 32 (sel (fun e => x (ix2 r e)) i) := by
  exact congrArg (fun j : (⟨2, ![R, n]⟩ : Shape).Idx => BitVec.ofNat 32 (j (1 : Fin 2)).val) (found_eq x h hk r i hv)

end Rows

section Boxes

variable {R G n k : Nat} [NeZero n] (x : (⟨3, ![R, G, n]⟩ : Shape).Idx → EReal)
  (h : (⟨3, ![R, G, n]⟩ : Shape).Slices (fun _ => 0) ⟨3, ![R, G, k]⟩) (hk : k ≤ n) (r : Fin R) (g : Fin G) (i : Fin k)

/-- Place `i` of the sorted line that `j` lies on. -/
def placeBox (j : (⟨3, ![R, G, n]⟩ : Shape).Idx) (i : Fin n) : Fin n :=
  sortedFrom (fun l l' : Fin n =>
    FloatOps.cmpfTotal (F := Ideal) (φ := .f32) .gt (x (j.along (2 : Fin 3) l)) (x (j.along (2 : Fin 3) l')) == 1#1) i

theorem along_box (j l : Fin n) : (ix3 r g j : (⟨3, ![R, G, n]⟩ : Shape).Idx).along (2 : Fin 3) l = ix3 r g l := by
  funext a
  match a with
  | ⟨0, _⟩ => exact Function.update_of_ne (Fin.ne_of_val_ne (by norm_num)) _ _
  | ⟨1, _⟩ => exact Function.update_of_ne (Fin.ne_of_val_ne (by norm_num)) _ _
  | ⟨2, _⟩ => exact Function.update_self _ _ _

/-- The place the slice of a sorted box reads. -/
abbrev slotBox : (⟨3, ![R, G, n]⟩ : Shape).Idx := fun a =>
  ⟨0 + ((ix3 r g i : (⟨3, ![R, G, k]⟩ : Shape).Idx) (a.cast h.1.symm)).val,
    Nat.lt_of_lt_of_le (Nat.add_lt_add_left (Fin.isLt _) _) (h.2 a)⟩

theorem slotBox_eq : slotBox h r g i = ix3 r g (i.castLE hk) := by
  funext a
  match a with
  | ⟨0, _⟩ => exact Fin.ext (Nat.zero_add _)
  | ⟨1, _⟩ => exact Fin.ext (Nat.zero_add _)
  | ⟨2, _⟩ => exact Fin.ext (Nat.zero_add _)

include hk in
/-- The same along the last of three axes (the entries only). -/
theorem topK_values_box (hv : ∀ e, x (ix3 r g e) ≠ ⊥) :
    (Host.topK ⟨3, ![R, G, k]⟩ 2 (FloatOps.cmpfTotal (F := Ideal) (φ := .f32) .gt) x h).1 (ix3 r g i)
      = x (ix3 r g (sel (fun e => x (ix3 r g e)) i)) := by
  refine congrArg x ((congrArg (fun j : (⟨3, ![R, G, n]⟩ : Shape).Idx => j.along (2 : Fin 3) (placeBox (n := n) x j (j (2 : Fin 3))))
    (slotBox_eq h hk r g i)).trans ?_)
  refine (along_box r g _ _).trans (congrArg (ix3 r g) (?_ : placeBox x (ix3 r g (i.castLE hk)) (i.castLE hk) = _))
  rw [← sortedFrom_eq_sel (fun e => x (ix3 r g e)) hv hk i]
  refine congrArg (fun f : Fin n → Fin n → Bool => sortedFrom f (i.castLE hk)) (funext fun l => funext fun l' => ?_)
  rw [gt_bit, along_box, along_box]

end Boxes

end Cert.Proof

end
-- ==== Proof.Ref.lean ====
/- The reference's values at an index, up to its choice of experts: the router's scores, the kept groups and the eight
   places of the largest entries left. -/
module

public import proofs.«01_k».proof.Proof.Values
public import proofs.«01_k».proof.Proof.Result
public import proofs.«01_k».proof.Proof.TopK
public import proofs.«01_k».proof.Proof.Gen.ReferenceIdeal.Read

@[expose] public section

noncomputable section

namespace Cert.Proof

open Idealize.ShloMosaic Cert.ReferenceIdeal Cert.ReferenceIdeal.Gen Cert.ReferenceIdeal.Read

/-- The second round of a row picks the largest entry left after the first, and that entry is the row's own. -/
theorem at_sel {n : Nat} [NeZero n] (v : Fin n → EReal) (hv : ∀ e, v e ≠ ⊥) {i : Nat} (hi : i < n) :
    v (sel v i) = top (left i v) := by
  refine Eq.trans ?_ (at_pick (left i v))
  show v (sel v i) = left i v (sel v i)
  rw [left_apply, if_neg]
  rintro ⟨j, hj, h⟩
  exact sel_fresh v hv hi j hj h

theorem one_bits : Ideal.ofBits .f32 0x3F800000#32 = 1 := by
  simp [Ideal.ofBits, Ideal.ieee, -EReal.coe_mul]; norm_num

open Classical in
/-- A disjunction of decided bits, folded. -/
theorem fold_ori {ι : Type} (s : Finset ι) (p : ι → Prop) [DecidablePred p] :
    s.fold IntOp.ori 0#1 (fun i => if p i then 1#1 else 0#1) = if ∃ i ∈ s, p i then 1#1 else 0#1 := by
  induction s using Finset.induction_on with
  | empty => simp
  | insert a s ha ih =>
    rw [Finset.fold_insert ha, ih, ori_ite]
    exact if_congr (by simp) rfl rfl

variable (x : FVec Ideal S16384x4096 .f32) (w : FVec Ideal S4096x64 .f32) (b : FVec Ideal S64 .f32)

theorem ref_score (n : Fin 16384) (e : Fin 64) : val_main_v6 (F := Ideal) x w (ix2 n e) = sRow x w n e := by
  have h0 : val_main_v0 (F := Ideal) x w (ix2 n e) = ∑ k : Fin 4096, x (ix2 n k) * w (ix2 k e) := by
    rw [val_main_v0_apply]
    refine Finset.sum_congr rfl fun k _ => ?_
    congr 2
    · funext a; match a with | ⟨0, _⟩ => rfl | ⟨1, _⟩ => rfl
    · funext a; match a with | ⟨0, _⟩ => rfl | ⟨1, _⟩ => rfl
  have h3 : ∀ i, val_main_v3 (F := Ideal) i = 1 := fun i => (val_main_v3_apply i).trans one_bits
  have h5 : ∀ i, val_main_v5 (F := Ideal) i = 1 := fun i => (val_main_v5_apply i).trans one_bits
  rw [val_main_v6_apply, val_main_v4_apply, val_main_v2_apply, val_main_v1_apply, h3, h5, h0]
  rfl

theorem ref_biased (n : Fin 16384) (e : Fin 64) : val_main_v9 (F := Ideal) x w b (ix2 n e) = bRow x w b n e := by
  rw [val_main_v9_apply, ref_score, val_main_v8_apply, val_main_v7_apply]
  refine congrArg (sRow x w n e + b ·) ?_
  funext a; match a with | ⟨0, _⟩ => rfl

theorem ref_cell (n : Fin 16384) (g j : Fin 8) : val_main_v10 (F := Ideal) x w b (ix3 n g j) = grp g (bRow x w b n) j := by
  rw [val_main_v10_apply]
  refine Eq.trans (congrArg _ ?_) (ref_biased x w b n (cell g j))
  funext a
  match a with
  | ⟨0, _⟩ => exact Fin.ext (by show ((n.val * 8 + g.val) * 8 + j.val) / 64 = n.val; omega)
  | ⟨1, _⟩ => exact Fin.ext (by show ((n.val * 8 + g.val) * 8 + j.val) % 64 = g.val * 8 + j.val; omega)

variable (hb : ∀ e, b (ix1 e) ≠ ⊥)

include hb in
theorem ref_group (n : Fin 16384) (g : Fin 8) : val_main_v11 (F := Ideal) x w b (ix2 n g) = groupScore (bRow x w b n) g := by
  have hv : ∀ j, grp g (bRow x w b n) j ≠ ⊥ := fun j => bRow_ne_bot x w b hb n _
  have hrow : (fun j => val_main_v10 (F := Ideal) x w b (ix3 n g j)) = grp g (bRow x w b n) := funext (ref_cell x w b n g)
  have hval : ∀ k : Fin 2, val_main_values (F := Ideal) x w b (ix3 n g k) = top (left k (grp g (bRow x w b n))) := fun k => by
    refine (topK_values_box (val_main_v10 (F := Ideal) x w b) _ (by norm_num) n g k fun j => ?_).trans ?_
    · rw [ref_cell]; exact hv j
    · rw [ref_cell, hrow]; exact at_sel _ hv (by have := k.isLt; omega)
  have hidx : ∀ k, idx_main_v11 (ix2 n g) k = ix3 n g k := fun k => by
    funext a; match a with | ⟨0, _⟩ => rfl | ⟨1, _⟩ => rfl | ⟨2, _⟩ => rfl
  rw [val_main_v11_apply]
  simp only [hidx, hval, Fin.sum_univ_two]
  refine (congrArg (· + _) ofBits_zero).trans ?_
  rw [zero_add]
  rfl

include hb in
theorem ref_kept (n : Fin 16384) (i : Fin 4) :
    val_main_indices_3 (F := Ideal) x w b (ix2 n i) = BitVec.ofNat 32 (sel (groupScore (bRow x w b n)) i) := by
  refine (topK_places (val_main_v11 (F := Ideal) x w b) _ (by norm_num) n i fun g => ?_).trans ?_
  · rw [ref_group x w b hb]; exact groupScore_ne_bot _ (bRow_ne_bot x w b hb n) g
  · rw [show (fun g => val_main_v11 (F := Ideal) x w b (ix2 n g)) = groupScore (bRow x w b n) from
      funext (ref_group x w b hb n)]

include hb in
theorem ref_match (n : Fin 16384) (g : Fin 8) (i : Fin 4) :
    val_main_v18 (F := Ideal) x w b (ix3 n g i) = if g = sel (groupScore (bRow x w b n)) i then 1#1 else 0#1 := by
  have h16 : val_main_v16 (F := Ideal) (ix3 n g i) = BitVec.ofNat 32 g := by
    rw [val_main_v16_apply, val_main_v15_apply, val_main_v13_apply, val_main_v12_apply]
    rfl
  have h17 : val_main_v17 (F := Ideal) x w b (ix3 n g i) = BitVec.ofNat 32 (sel (groupScore (bRow x w b n)) i) := by
    rw [val_main_v17_apply, val_main_v14_apply, ← ref_kept x w b hb n i]
    congr 1
    funext a; match a with | ⟨0, _⟩ => rfl | ⟨1, _⟩ => rfl
  rw [val_main_v18_apply, h16, h17]
  exact cmpi_ofNat (by norm_num) g _

open Classical in
include hb in
theorem ref_keep (n : Fin 16384) (g : Fin 8) :
    val_main_v19 (F := Ideal) x w b (ix2 n g) = if Kept (bRow x w b n) g then 1#1 else 0#1 := by
  have h : val_main_v19 (F := Ideal) x w b (ix2 n g)
      = Finset.univ.fold IntOp.ori 0#1 fun i : Fin 4 => val_main_v18 (F := Ideal) x w b (ix3 n g i) := by
    unfold val_main_v19
    simp only [pointwise]
    rfl
  rw [h]
  simp only [ref_match x w b hb]
  rw [fold_ori]
  by_cases h : Kept (bRow x w b n) g
  · obtain ⟨i, hi, he⟩ := h
    rw [if_pos ⟨⟨i, hi⟩, Finset.mem_univ _, he.symm⟩, if_pos ⟨i, hi, he⟩]
  · rw [if_neg fun ⟨i, _, he⟩ => h ⟨i, i.isLt, he.symm⟩, if_neg h]

include hb in
theorem ref_masked (n : Fin 16384) (e : Fin 64) : val_main_v22 (F := Ideal) x w b (ix2 n e) = masked (bRow x w b n) e := by
  have h21 : val_main_v21 (F := Ideal) x w b (ix2 n e) = val_main_v19 (F := Ideal) x w b (ix2 n (groupOf e)) := by
    rw [val_main_v21_apply, val_main_v20_apply]
    congr 1
    funext a
    match a with
    | ⟨0, _⟩ => exact Fin.ext (by show (n.val * 64 + e.val) / 64 = n.val; omega)
    | ⟨1, _⟩ => exact Fin.ext (by show (n.val * 64 + e.val) / 8 % 8 = e.val / 8; omega)
  have h0 : val_main_call0_v1 (F := Ideal) (ix2 n e) = 0 := by
    rw [val_main_call0_v1_apply, val_main_call0_v0_apply, val_main_cst_4_apply]; exact ofBits_zero
  rw [val_main_v22_apply, h21, ref_keep x w b hb, ref_biased, h0]
  unfold masked
  by_cases h : Kept (bRow x w b n) (groupOf e)
  · rw [if_pos h, if_pos h]; rfl
  · rw [if_neg h, if_neg h]; rfl

include hb in
theorem ref_expert (n : Fin 16384) (i : Fin 8) :
    val_main_indices_6 (F := Ideal) x w b (ix2 n i) = BitVec.ofNat 32 (expert (bRow x w b n) i) := by
  refine (topK_places (val_main_v22 (F := Ideal) x w b) _ (by norm_num) n i fun e => ?_).trans ?_
  · rw [ref_masked x w b hb]; exact masked_ne_bot _ (bRow_ne_bot x w b hb n) e
  · rw [show (fun e => val_main_v22 (F := Ideal) x w b (ix2 n e)) = masked (bRow x w b n) from
      funext (ref_masked x w b hb n)]
    rfl

end Cert.Proof

end
-- ==== Proof.RefWeight.lean ====
/- The reference's two results: the experts it chose, and their scores read back by a gather and normalised. -/
module

public import proofs.«01_k».proof.Proof.Ref

@[expose] public section

noncomputable section

namespace Cert.Proof

open Idealize.ShloMosaic Cert.ReferenceIdeal Cert.ReferenceIdeal.Gen Cert.ReferenceIdeal.Read

/-- The printed gather's dimension numbers. -/
abbrev along64 : GatherDims S16384x64 S16384x8x1 S16384x8 := gather_S16384x64_S16384x8x1_S16384x8_n_1_0_0_1_2_11

/-- The gather along the experts, at a start index that is an expert's number, reads that expert's entry. -/
theorem gather_at (v : S16384x64.Idx → EReal) (idx : IVec S16384x8x1 32) (n : Fin 16384) (i : Fin 8) (e : Fin 64)
    (h : idx (ix3 n i 0) = BitVec.ofNat 32 e) : Host.gather along64 v idx (ix2 n i) = v (ix2 n e) := by
  unfold Host.gather
  refine congrArg v (funext fun a => Fin.ext ?_)
  show along64.start (ix2 n i) idx a + along64.batchCoord (ix2 n i) a + along64.offCoord (ix2 n i) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ along64.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      Nat.add_zero]
    unfold GatherDims.start
    have hm : (1 : Fin 2) ∈ along64.startIndexMap := List.mem_singleton.mpr rfl
    rw [dif_pos hm]
    have hsi : along64.siIdx (ix2 n i) ⟨along64.startIndexMap.idxOf (1 : Fin 2), List.idxOf_lt_length_iff.2 hm⟩ = ix3 n i 0 := by
      funext c; refine Fin.ext ?_
      match c with
      | ⟨0, _⟩ => rfl
      | ⟨1, _⟩ => rfl
      | ⟨2, _⟩ => rfl
    rw [hsi, h]
    exact (by decide : ∀ e : Fin 64, min (BitVec.ofNat 32 e.val).toInt.toNat (64 - 1) = e.val) e

/-- An expert's number is not negative, so it is not wrapped. -/
theorem wrap_at : ∀ e : Fin 64, IntOp.cmpi .slt (BitVec.ofNat 32 e.val) 0#32 = 0#1 := by decide

/-- And it is in range. -/
theorem range_at : ∀ e : Fin 64,
    IntOp.andi (IntOp.cmpi .sge (BitVec.ofNat 32 e.val) 0#32) (IntOp.cmpi .sle (BitVec.ofNat 32 e.val) 63#32) = 1#1 := by
  decide

variable (x : FVec Ideal S16384x4096 .f32) (w : FVec Ideal S4096x64 .f32) (b : FVec Ideal S64 .f32)
  (hb : ∀ e, b (ix1 e) ≠ ⊥)

include hb in
theorem ref_start (n : Fin 16384) (i : Fin 8) :
    val_main_call1_v5 (F := Ideal) x w b (ix3 n i 0) = BitVec.ofNat 32 (expert (bRow x w b n) i) := by
  have hidx : idx_main_call1_v5 (ix3 n i 0) = ix2 n i := by
    funext a
    match a with
    | ⟨0, _⟩ => exact Fin.ext (by show ((n.val * 8 + i.val) * 1 + 0) / 8 = n.val; omega)
    | ⟨1, _⟩ => exact Fin.ext (by show ((n.val * 8 + i.val) * 1 + 0) % 8 = i.val; omega)
  rw [val_main_call1_v5_apply, hidx, val_main_call1_v4_apply, val_main_call1_v1_apply, val_main_call1_v0_apply,
    val_main_call1_c_apply, ref_expert x w b hb, wrap_at]
  rfl

include hb in
theorem ref_range (n : Fin 16384) (i : Fin 8) : val_main_call1_v12 (F := Ideal) x w b (ix2 n i) = 1#1 := by
  have h : val_main_call1_v12 (F := Ideal) x w b (ix2 n i)
      = Finset.univ.fold IntOp.andi 1#1 fun k : Fin 1 => val_main_call1_v11 (F := Ideal) x w b (ix3 n i k) := by
    unfold val_main_call1_v12
    simp only [pointwise]
    rfl
  have h11 : val_main_call1_v11 (F := Ideal) x w b (ix3 n i 0) = 1#1 := by
    rw [val_main_call1_v11_apply, val_main_call1_v7_apply, val_main_call1_v10_apply, ref_start x w b hb,
      val_main_call1_v6_apply, val_main_call1_c_2_apply, val_main_call1_v9_apply, val_main_call1_v8_apply,
      val_main_call1_c_1_apply]
    exact range_at _
  rw [h, Finset.univ_unique, Finset.fold_singleton]
  exact congrArg (fun p => IntOp.andi p 1#1) h11

include hb in
theorem ref_picked (n : Fin 16384) (i : Fin 8) :
    val_main_v23 (F := Ideal) x w b (ix2 n i) = sRow x w n (expert (bRow x w b n) i) := by
  rw [val_main_v23_apply, ref_range x w b hb]
  refine Eq.trans (?_ : _ = val_main_call1_v13 (F := Ideal) x w b (ix2 n i)) ?_
  · rfl
  · exact (gather_at _ _ n i _ (ref_start x w b hb n i)).trans (ref_score x w n _)

include hb in
theorem ref_weights : val_main_v31 (F := Ideal) x w b = weights x w b := by
  funext j
  obtain ⟨n, i, rfl⟩ : ∃ (n : Fin 16384) (i : Fin 8), j = ix2 n i := ⟨j 0, j 1, by
    funext a; match a with | ⟨0, _⟩ => rfl | ⟨1, _⟩ => rfl⟩
  have h24 : val_main_v28 (F := Ideal) x w b (ix2 n i)
      = (∑ k : Fin 8, sRow x w n (expert (bRow x w b n) k)) + Ideal.ofBits .f32 0x1E3CE508#32 := by
    have hidx : ∀ k, idx_main_v24 (idx_main_v25 (idx_main_v28 (ix2 n i))) k = ix2 n k := fun k => by
      funext a; match a with | ⟨0, _⟩ => rfl | ⟨1, _⟩ => rfl
    rw [val_main_v28_apply, val_main_v27_apply, val_main_v25_apply, val_main_v24_apply, val_main_v26_apply,
      val_main_cst_8_apply]
    simp only [hidx, ref_picked x w b hb]
    refine congrArg (· + _) ?_
    exact (congrArg (· + _) ofBits_zero).trans (zero_add _)
  rw [val_main_v31_apply, val_main_v29_apply, ref_picked x w b hb, h24, val_main_v30_apply, val_main_cst_9_apply]
  rfl

include hb in
theorem ref_experts : val_main_indices_6 (F := Ideal) x w b = experts x w b := by
  funext j
  obtain ⟨n, i, rfl⟩ : ∃ (n : Fin 16384) (i : Fin 8), j = ix2 n i := ⟨j 0, j 1, by
    funext a; match a with | ⟨0, _⟩ => rfl | ⟨1, _⟩ => rfl⟩
  exact ref_expert x w b hb n i

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.RefWeight
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The precondition's side condition. -/
theorem preFacts : Cert.Pre_bias_not_minus_infinity.Facts := ⟨by decide⟩

/-- What the precondition says at one expert: its bias is not minus infinity. -/
theorem bias_ne_bot [Cert.KernelIdeal.Facts] [Cert.Pre_bias_not_minus_infinity.Facts]
    (m : (ℓ : Loc Cert.KernelIdeal.nD Cert.KernelIdeal.τ Cert.KernelIdeal.sig) → Buf (Elt Ideal) ℓ)
    (h : Pre_KernelIdeal_bias_not_minus_infinity m) (c : Dev Cert.KernelIdeal.nD) (e : Fin 64) :
    argB m c (ix1 e) ≠ ⊥ := by
  intro hb
  have h1 : BitVec.ofBool (decide (Ideal.ofBits .f32 0xFF800000#32 < argB m c (ix1 e))) = 1#1 := congrFun (h c) (ix1 e)
  rw [ofBits_neg_inf, hb] at h1
  simp at h1

theorem reference_quiescent (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c : Thread Cert.ReferenceIdeal.nD Cert.ReferenceIdeal.τ).loc Cert.ReferenceIdeal.main_arg0)
          = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1)
          = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2)
          = m ((c : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The value claim: both runs end at the router's weights and experts of the arguments they agree on. -/
theorem values_equal [hPre : Cert.Pre_bias_not_minus_infinity.Facts] :
    algebraic_KernelIdeal_ReferenceIdeal_pre_bias_not_minus_infinity := by
  intro m ρ m' ρ' hpre hagree
  refine ⟨fun c => weights (argX m c) (argW m c) (argB m c), fun c => experts (argX m c) (argW m c) (argB m c), ?_, ?_⟩
  · refine (θ_run Cert.KernelIdeal.defs _ _).mono (fun r h c => ?_) (Cert.KernelIdeal.Value.run_blocks (F := Ideal) m ρ)
    have hb := bias_ne_bot m hpre c
    exact ⟨(h c).1.trans (final3 m c hb), (h c).2.1.trans (final4 m c hb), (h c).2.2⟩
  · refine (θ_run Cert.ReferenceIdeal.defs _ _).mono (fun r h c => ?_) (Cert.ReferenceIdeal.Value.run (F := Ideal) m' ρ')
    have hb := bias_ne_bot m hpre c
    refine ⟨((h c).1.trans (Cert.ReferenceIdeal.Read.val_main_v31_eq m' c)).trans ?_,
      ((h c).2.1.trans (Cert.ReferenceIdeal.Read.val_main_indices_6_eq _ _ _)).trans ?_, (h c).2.2⟩
    · rw [(hagree c).1, (hagree c).2.1, (hagree c).2.2]
      exact ref_weights _ _ _ hb
    · rw [(hagree c).1, (hagree c).2.1, (hagree c).2.2]
      exact ref_experts _ _ _ hb

theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => reference_quiescent m ρ,
    fun m ρ _ => reference_quiescent m ρ,
    trivial,
    values_equal (hPre := preFacts)⟩

end Cert.Proof

end
